-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x3x4096 : Shape := ⟨3, ![2, 3, 4096]⟩
abbrev S_ : Shape := ⟨0, ![]⟩

class Facts : Prop where
  bcast_S_S2x3x4096 : S_.BroadcastsInDim S2x3x4096 (![] : Fin 0 → Fin S2x3x4096.rank)
  reducesTo_S2x3x4096_S_d0_1_2 : S2x3x4096.ReducesTo [0, 1, 2] S_
  h_S_ : 0 < S_.numel

variable [Facts]

def fn {F : FTy → Type} [FloatOps F] (main_arg0 : FVec F S2x3x4096 .f32) (main_arg1 : FVec F S2x3x4096 .f32) : IVec S_ 1 :=
  let main_v0 : FVec F S2x3x4096 .f32 := Host.absf main_arg0
  let main_cst : FVec F S_ .f32 := constant S_ .f32 0x7F800000#32
  let main_v1 : FVec F S2x3x4096 .f32 := broadcastInDim S2x3x4096 ![] bcast_S_S2x3x4096 main_cst
  let main_v2 : IVec S2x3x4096 1 := cmpf .olt main_v0 main_v1
  let main_c : IVec S_ 1 := constantI S_ 1 1#1
  let main_v3 : IVec S_ 1 := (fun x v => Host.reduce IntOp.andi x v reducesTo_S2x3x4096_S_d0_1_2 h_S_) main_v2 main_c
  let main_v4 : FVec F S2x3x4096 .f32 := Host.absf main_arg1
  let main_cst_0 : FVec F S_ .f32 := constant S_ .f32 0x7F800000#32
  let main_v5 : FVec F S2x3x4096 .f32 := broadcastInDim S2x3x4096 ![] bcast_S_S2x3x4096 main_cst_0
  let main_v6 : IVec S2x3x4096 1 := cmpf .olt main_v4 main_v5
  let main_c_1 : IVec S_ 1 := constantI S_ 1 1#1
  let main_v7 : IVec S_ 1 := (fun x v => Host.reduce IntOp.andi x v reducesTo_S2x3x4096_S_d0_1_2 h_S_) main_v6 main_c_1
  let main_v8 : IVec S_ 1 := andi main_v3 main_v7
  main_v8
-- ==== Kernel.lean ====
abbrev S2x3x4096 : Shape := ⟨3, ![2, 3, 4096]⟩
abbrev S2x4096x3 : Shape := ⟨3, ![2, 4096, 3]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S2x4096x1 : Shape := ⟨3, ![2, 4096, 1]⟩
abbrev S1x3x512 : Shape := ⟨3, ![1, 3, 512]⟩
abbrev S1x256x3 : Shape := ⟨3, ![1, 256, 3]⟩
abbrev S1x256x1 : Shape := ⟨3, ![1, 256, 1]⟩
abbrev S256x1 : Shape := ⟨2, ![256, 1]⟩
abbrev S256x3 : Shape := ⟨2, ![256, 3]⟩
abbrev S3x512 : Shape := ⟨2, ![3, 512]⟩
abbrev S256x512 : Shape := ⟨2, ![256, 512]⟩
abbrev S256 : Shape := ⟨1, ![256]⟩
abbrev S2x1x4096 : Shape := ⟨3, ![2, 1, 4096]⟩

abbrev nBuf : Space → Nat
  | .hbm => 13
  | .vmem => 11
  | .smem => 0
  | _ => 0

abbrev bufTy : (tb : Table) → Fin (tcTables nBuf tb) → BufTy
  | .hbm, ⟨0, _⟩ => ⟨S2x3x4096, .f32⟩
  | .hbm, ⟨1, _⟩ => ⟨S2x3x4096, .f32⟩
  | .hbm, ⟨2, _⟩ => ⟨S2x4096x3, .f32⟩
  | .hbm, ⟨3, _⟩ => ⟨S2x4096x3, .f32⟩
  | .hbm, ⟨4, _⟩ => ⟨S512, .i32⟩
  | .hbm, ⟨5, _⟩ => ⟨S512x1, .i32⟩
  | .hbm, ⟨6, _⟩ => ⟨S1x512, .i32⟩
  | .hbm, ⟨7, _⟩ => ⟨S512x512, .i32⟩
  | .hbm, ⟨8, _⟩ => ⟨S512x512, .i32⟩
  | .hbm, ⟨9, _⟩ => ⟨S512x512, .i1⟩
  | .hbm, ⟨10, _⟩ => ⟨S512x512, .bf16⟩
  | .hbm, ⟨11, _⟩ => ⟨S2x4096x1, .f32⟩
  | .hbm, ⟨12, _⟩ => ⟨S2x1x4096, .f32⟩
  | .local _ .vmem, ⟨0, _⟩ => ⟨S1x3x512, .f32⟩
  | .local _ .vmem, ⟨1, _⟩ => ⟨S1x3x512, .f32⟩
  | .local _ .vmem, ⟨2, _⟩ => ⟨S1x256x3, .f32⟩
  | .local _ .vmem, ⟨3, _⟩ => ⟨S1x256x3, .f32⟩
  | .local _ .vmem, ⟨4, _⟩ => ⟨S1x256x3, .f32⟩
  | .local _ .vmem, ⟨5, _⟩ => ⟨S1x256x3, .f32⟩
  | .local _ .vmem, ⟨6, _⟩ => ⟨S512x512, .bf16⟩
  | .local _ .vmem, ⟨7, _⟩ => ⟨S1x256x1, .f32⟩
  | .local _ .vmem, ⟨8, _⟩ => ⟨S1x256x1, .f32⟩
  | .local _ .vmem, ⟨9, _⟩ => ⟨S256x1, .f32⟩
  | .local _ .vmem, ⟨10, _⟩ => ⟨S256x1, .f32⟩
  | _, _ => ⟨S2x3x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![2, 16, 8], ![false, false, false]⟩

def k0_cond2 (i : grid0.Coords) : BitVec 1 :=
  let arg2 : BitVec 32 := BitVec.ofNat 32 (i 2).val
  let c7_i32 : BitVec 32 := 7#32
  let v118 : BitVec 1 := Scalar.cmpi .eq arg2 c7_i32
  let v119 : BitVec 32 := Scalar.extui v118
  let c0_i32_31 : BitVec 32 := 0#32
  let v120 : BitVec 1 := Scalar.cmpi .ne v119 c0_i32_31
  v120

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x3x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x256x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x256x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== ReferenceIdeal.lean ====
abbrev S2x3x4096 : Shape := ⟨3, ![2, 3, 4096]⟩
abbrev S2x4096x3 : Shape := ⟨3, ![2, 4096, 3]⟩
abbrev S_ : Shape := ⟨0, ![]⟩
abbrev S2x4096 : Shape := ⟨2, ![2, 4096]⟩
abbrev S2x4096x1 : Shape := ⟨3, ![2, 4096, 1]⟩
abbrev S2x1x4096 : Shape := ⟨3, ![2, 1, 4096]⟩
abbrev S2x4096x4096 : Shape := ⟨3, ![2, 4096, 4096]⟩
abbrev S4096 : Shape := ⟨1, ![4096]⟩
abbrev S1x1x4096 : Shape := ⟨3, ![1, 1, 4096]⟩
abbrev S2x4096x32 : Shape := ⟨3, ![2, 4096, 32]⟩
abbrev S2x4096x32x1 : Shape := ⟨4, ![2, 4096, 32, 1]⟩
abbrev S2x4096x32x3 : Shape := ⟨4, ![2, 4096, 32, 3]⟩
abbrev S2x4096x1x3 : Shape := ⟨4, ![2, 4096, 1, 3]⟩

abbrev nBuf : Space → Nat
  | .hbm => 118
  | .vmem => 0
  | .smem => 0
  | _ => 0

abbrev bufTy : (tb : Table) → Fin (tcTables nBuf tb) → BufTy
  | .hbm, ⟨0, _⟩ => ⟨S2x3x4096, .f32⟩
  | .hbm, ⟨1, _⟩ => ⟨S2x3x4096, .f32⟩
  | .hbm, ⟨2, _⟩ => ⟨S2x4096x3, .f32⟩
  | .hbm, ⟨3, _⟩ => ⟨S2x4096x3, .f32⟩
  | .hbm, ⟨4, _⟩ => ⟨S2x4096x3, .f32⟩
  | .hbm, ⟨5, _⟩ => ⟨S_, .f32⟩
  | .hbm, ⟨6, _⟩ => ⟨S2x4096, .f32⟩
  | .hbm, ⟨7, _⟩ => ⟨S2x4096x1, .f32⟩
  | .hbm, ⟨8, _⟩ => ⟨S2x1x4096, .f32⟩
  | .hbm, ⟨9, _⟩ => ⟨S2x4096x4096, .f32⟩
  | .hbm, ⟨10, _⟩ => ⟨S2x4096x4096, .f32⟩
  | .hbm, ⟨11, _⟩ => ⟨S2x4096x4096, .f32⟩
  | .hbm, ⟨12, _⟩ => ⟨S2x4096x4096, .f32⟩
  | .hbm, ⟨13, _⟩ => ⟨S_, .f32⟩
  | .hbm, ⟨14, _⟩ => ⟨S2x4096x4096, .f32⟩
  | .hbm, ⟨15, _⟩ => ⟨S2x4096x4096, .f32⟩
  | .hbm, ⟨16, _⟩ => ⟨S2x4096x4096, .f32⟩
  | .hbm, ⟨17, _⟩ => ⟨S_, .f32⟩
  | .hbm, ⟨18, _⟩ => ⟨S2x4096x4096, .f32⟩
  | .hbm, ⟨19, _⟩ => ⟨S2x4096x4096, .f32⟩
  | .hbm, ⟨20, _⟩ => ⟨S4096, .i32⟩
  | .hbm, ⟨21, _⟩ => ⟨S1x1x4096, .i32⟩
  | .hbm, ⟨22, _⟩ => ⟨S2x4096x4096, .i32⟩
  | .hbm, ⟨23, _⟩ => ⟨S_, .f32⟩
  | .hbm, ⟨24, _⟩ => ⟨S2x4096x4096, .f32⟩
  | .hbm, ⟨25, _⟩ => ⟨S2x4096x4096, .i1⟩
  | .hbm, ⟨26, _⟩ => ⟨S_, .i32⟩
  | .hbm, ⟨27, _⟩ => ⟨S_, .i32⟩
  | .hbm, ⟨28, _⟩ => ⟨S2x4096x4096, .i32⟩
  | .hbm, ⟨29, _⟩ => ⟨S2x4096x4096, .i32⟩
  | .hbm, ⟨30, _⟩ => ⟨S2x4096x4096, .i32⟩
  | .hbm, ⟨31, _⟩ => ⟨S2x4096x32, .i32⟩
  | .hbm, ⟨32, _⟩ => ⟨S2x4096x1, .i32⟩
  | .hbm, ⟨33, _⟩ => ⟨S_, .i32⟩
  | .hbm, ⟨34, _⟩ => ⟨S2x4096x32, .i32⟩
  | .hbm, ⟨35, _⟩ => ⟨S2x4096x32, .i1⟩
  | .hbm, ⟨36, _⟩ => ⟨S2x4096x32, .i32⟩
  | .hbm, ⟨37, _⟩ => ⟨S2x4096x32, .i32⟩
  | .hbm, ⟨38, _⟩ => ⟨S_, .i32⟩
  | .hbm, ⟨39, _⟩ => ⟨S2x4096x32, .i32⟩
  | .hbm, ⟨40, _⟩ => ⟨S2x4096x32, .i1⟩
  | .hbm, ⟨41, _⟩ => ⟨S_, .i32⟩
  | .hbm, ⟨42, _⟩ => ⟨S2x4096x32, .i32⟩
  | .hbm, ⟨43, _⟩ => ⟨S2x4096x32, .i32⟩
  | .hbm, ⟨44, _⟩ => ⟨S2x4096x32, .i32⟩
  | .hbm, ⟨45, _⟩ => ⟨S2x4096x32x1, .i32⟩
  | .hbm, ⟨46, _⟩ => ⟨S2x4096x32x3, .f32⟩
  | .hbm, ⟨47, _⟩ => ⟨S2x4096x1x3, .f32⟩
  | .hbm, ⟨48, _⟩ => ⟨S2x4096x32x3, .f32⟩
  | .hbm, ⟨49, _⟩ => ⟨S2x4096x32x3, .f32⟩
  | .hbm, ⟨50, _⟩ => ⟨S2x4096x1x3, .f32⟩
  | .hbm, ⟨51, _⟩ => ⟨S2x4096x32x3, .f32⟩
  | .hbm, ⟨52, _⟩ => ⟨S2x4096x32x1, .f32⟩
  | .hbm, ⟨53, _⟩ => ⟨S2x4096x32, .f32⟩
  | .hbm, ⟨54, _⟩ => ⟨S2x4096x32x1, .f32⟩
  | .hbm, ⟨55, _⟩ => ⟨S2x4096x32, .f32⟩
  | .hbm, ⟨56, _⟩ => ⟨S2x4096x32x1, .f32⟩
  | .hbm, ⟨57, _⟩ => ⟨S2x4096x32, .f32⟩
  | .hbm, ⟨58, _⟩ => ⟨S2x4096x32x1, .f32⟩
  | .hbm, ⟨59, _⟩ => ⟨S2x4096x32, .f32⟩
  | .hbm, ⟨60, _⟩ => ⟨S2x4096x32x1, .f32⟩
  | .hbm, ⟨61, _⟩ => ⟨S2x4096x32, .f32⟩
  | .hbm, ⟨62, _⟩ => ⟨S2x4096x32x1, .f32⟩
  | .hbm, ⟨63, _⟩ => ⟨S2x4096x32, .f32⟩
  | .hbm, ⟨64, _⟩ => ⟨S2x4096x32, .f32⟩
  | .hbm, ⟨65, _⟩ => ⟨S2x4096x32, .f32⟩
  | .hbm, ⟨66, _⟩ => ⟨S2x4096x32, .f32⟩
  | .hbm, ⟨67, _⟩ => ⟨S2x4096x32, .f32⟩
  | .hbm, ⟨68, _⟩ => ⟨S2x4096x32, .f32⟩
  | .hbm, ⟨69, _⟩ => ⟨S2x4096x32, .f32⟩
  | .hbm, ⟨70, _⟩ => ⟨S2x4096x32, .f32⟩
  | .hbm, ⟨71, _⟩ => ⟨S2x4096x32, .f32⟩
  | .hbm, ⟨72, _⟩ => ⟨S2x4096x32, .f32⟩
  | .hbm, ⟨73, _⟩ => ⟨S2x4096x32x1, .f32⟩
  | .hbm, ⟨74, _⟩ => ⟨S2x4096x32x1, .f32⟩
  | .hbm, ⟨75, _⟩ => ⟨S2x4096x32x1, .f32⟩
  | .hbm, ⟨76, _⟩ => ⟨S2x4096x32x3, .f32⟩
  | .hbm, ⟨77, _⟩ => ⟨S2x4096x32x3, .f32⟩
  | .hbm, ⟨78, _⟩ => ⟨S_, .f32⟩
  | .hbm, ⟨79, _⟩ => ⟨S2x4096x32, .f32⟩
  | .hbm, ⟨80, _⟩ => ⟨S2x4096x32x3, .f32⟩
  | .hbm, ⟨81, _⟩ => ⟨S_, .f32⟩
  | .hbm, ⟨82, _⟩ => ⟨S2x4096x32, .f32⟩
  | .hbm, ⟨83, _⟩ => ⟨S_, .f32⟩
  | .hbm, ⟨84, _⟩ => ⟨S2x4096x32, .f32⟩
  | .hbm, ⟨85, _⟩ => ⟨S2x4096x32, .i1⟩
  | .hbm, ⟨86, _⟩ => ⟨S2x4096x32, .f32⟩
  | .hbm, ⟨87, _⟩ => ⟨S_, .f32⟩
  | .hbm, ⟨88, _⟩ => ⟨S2x4096x32, .f32⟩
  | .hbm, ⟨89, _⟩ => ⟨S2x4096x32, .i1⟩
  | .hbm, ⟨90, _⟩ => ⟨S2x4096x32, .i1⟩
  | .hbm, ⟨91, _⟩ => ⟨S_, .f32⟩
  | .hbm, ⟨92, _⟩ => ⟨S2x4096x32, .f32⟩
  | .hbm, ⟨93, _⟩ => ⟨S2x4096x32, .i1⟩
  | .hbm, ⟨94, _⟩ => ⟨S_, .f32⟩
  | .hbm, ⟨95, _⟩ => ⟨S_, .f32⟩
  | .hbm, ⟨96, _⟩ => ⟨S2x4096x32, .f32⟩
  | .hbm, ⟨97, _⟩ => ⟨S2x4096x32, .f32⟩
  | .hbm, ⟨98, _⟩ => ⟨S_, .f32⟩
  | .hbm, ⟨99, _⟩ => ⟨S2x4096x32, .f32⟩
  | .hbm, ⟨100, _⟩ => ⟨S2x4096x32, .i1⟩
  | .hbm, ⟨101, _⟩ => ⟨S2x4096x32, .f32⟩
  | .hbm, ⟨102, _⟩ => ⟨S_, .f32⟩
  | .hbm, ⟨103, _⟩ => ⟨S_, .f32⟩
  | .hbm, ⟨104, _⟩ => ⟨S2x4096x32, .f32⟩
  | .hbm, ⟨105, _⟩ => ⟨S2x4096x32, .f32⟩
  | .hbm, ⟨106, _⟩ => ⟨S_, .f32⟩
  | .hbm, ⟨107, _⟩ => ⟨S_, .f32⟩
  | .hbm, ⟨108, _⟩ => ⟨S2x4096x32, .f32⟩
  | .hbm, ⟨109, _⟩ => ⟨S2x4096x32, .f32⟩
  | .hbm, ⟨110, _⟩ => ⟨S2x4096x32, .f32⟩
  | .hbm, ⟨111, _⟩ => ⟨S_, .f32⟩
  | .hbm, ⟨112, _⟩ => ⟨S_, .f32⟩
  | .hbm, ⟨113, _⟩ => ⟨S2x4096x32, .f32⟩
  | .hbm, ⟨114, _⟩ => ⟨S2x4096x32, .f32⟩
  | .hbm, ⟨115, _⟩ => ⟨S_, .f32⟩
  | .hbm, ⟨116, _⟩ => ⟨S2x4096, .f32⟩
  | .hbm, ⟨117, _⟩ => ⟨S2x1x4096, .f32⟩
  | _, _ => ⟨S2x3x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_v19 : Ref sig .tc := ⟨.hbm, 25, rfl⟩
abbrev main_c : Ref sig .tc := ⟨.hbm, 26, rfl⟩
abbrev main_call0_v0 : Ref sig .tc := ⟨.hbm, 27, rfl⟩
abbrev main_call0_v1 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_c_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_c_4 : Ref sig .tc := ⟨.hbm, 38, rfl⟩
abbrev main_v28 : Ref sig .tc := ⟨.hbm, 39, rfl⟩
abbrev main_v29 : Ref sig .tc := ⟨.hbm, 40, rfl⟩
abbrev main_c_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_cst_6 : Ref sig .tc := ⟨.hbm, 78, rfl⟩
abbrev main_v66 : Ref sig .tc := ⟨.hbm, 79, rfl⟩
abbrev main_v67 : Ref sig .tc := ⟨.hbm, 80, rfl⟩
abbrev main_cst_7 : Ref sig .tc := ⟨.hbm, 81, rfl⟩
abbrev main_v68 : Ref sig .tc := ⟨.hbm, 82, rfl⟩
abbrev main_cst_8 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_cst_9 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_cst_10 : Ref sig .tc := ⟨.hbm, 91, rfl⟩
abbrev main_v75 : Ref sig .tc := ⟨.hbm, 92, rfl⟩
abbrev main_v76 : Ref sig .tc := ⟨.hbm, 93, rfl⟩
abbrev main_cst_11 : Ref sig .tc := ⟨.hbm, 94, rfl⟩
abbrev main_call3_v0 : Ref sig .tc := ⟨.hbm, 95, rfl⟩
abbrev main_call3_v1 : Ref sig .tc := ⟨.hbm, 96, rfl⟩
abbrev main_v77 : Ref sig .tc := ⟨.hbm, 97, rfl⟩
abbrev main_cst_12 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_cst_13 : Ref sig .tc := ⟨.hbm, 102, rfl⟩
abbrev main_call4_v0 : Ref sig .tc := ⟨.hbm, 103, rfl⟩
abbrev main_call4_v1 : Ref sig .tc := ⟨.hbm, 104, rfl⟩
abbrev main_v81 : Ref sig .tc := ⟨.hbm, 105, rfl⟩
abbrev main_cst_14 : Ref sig .tc := ⟨.hbm, 106, rfl⟩
abbrev main_call5_v0 : Ref sig .tc := ⟨.hbm, 107, rfl⟩
abbrev main_call5_v1 : Ref sig .tc := ⟨.hbm, 108, rfl⟩
abbrev main_v82 : Ref sig .tc := ⟨.hbm, 109, rfl⟩
abbrev main_v83 : Ref sig .tc := ⟨.hbm, 110, rfl⟩
abbrev main_cst_15 : Ref sig .tc := ⟨.hbm, 111, rfl⟩
abbrev main_call6_v0 : Ref sig .tc := ⟨.hbm, 112, rfl⟩
abbrev main_call6_v1 : Ref sig .tc := ⟨.hbm, 113, rfl⟩
abbrev main_v84 : Ref sig .tc := ⟨.hbm, 114, rfl⟩
abbrev main_cst_16 : Ref sig .tc := ⟨.hbm, 115, rfl⟩
abbrev main_v85 : Ref sig .tc := ⟨.hbm, 116, rfl⟩
abbrev main_v86 : Ref sig .tc := ⟨.hbm, 117, rfl⟩

abbrev nD : Nat := 1
abbrev τ : Topo := Topo.v7x

variable {F : FTy → Type} [FloatOps F]
-- ==== Proof.Angle.lean ====
/- The angle between a normal and an offset, two ways, on the extended reals: the kernel's monotone score and the map of
   it back to an angle, and the reference's two-argument arctangent with its guards. Nothing here reads a program. -/
module

public import Idealize.ShloMosaic.PureOps.Ideal
public import Idealize.ShloMosaic.PureOps.Ideal.Laws
public import Mathlib.Analysis.SpecialFunctions.Trigonometric.Inverse
public import Mathlib.Analysis.SpecialFunctions.Trigonometric.Arctan

@[expose] public section

noncomputable section

namespace Cert.Proof.Ppf

open Idealize.ShloMosaic

/-- The cut under which a squared cross product counts as none: the single-precision word of 1e-20. -/
abbrev tiny : EReal := Ideal.ofBits .f32 0x1E3CE508#32
/-- The cut under which a dot product counts as none: the word of 1e-10. -/
abbrev small : EReal := Ideal.ofBits .f32 0x2EDBE6FF#32
/-- The word of -1e-10. -/
abbrev negSmall : EReal := Ideal.ofBits .f32 0xAEDBE6FF#32
/-- The word of -1. -/
abbrev negOne : EReal := Ideal.ofBits .f32 0xBF800000#32
/-- The word of 2. -/
abbrev two : EReal := Ideal.ofBits .f32 0x40000000#32
/-- The word of the squared radius. -/
abbrev radius2 : EReal := Ideal.ofBits .f32 0x3CB851EC#32

/-- The word of -1 is the real -1. -/
theorem negOne_eq : negOne = ((-1 : ℝ) : EReal) := by
  simp [Ideal.ofBits, Ideal.ieee, -EReal.coe_mul]; norm_num

/-- The word of 2 is the real 2. -/
theorem two_eq : two = ((2 : ℝ) : EReal) := by
  simp [Ideal.ofBits, Ideal.ieee, -EReal.coe_mul]; norm_num

/-- The word of 32 is the real 32. -/
theorem thirtyTwo_eq : Ideal.ofBits .f32 0x42000000#32 = ((32 : ℝ) : EReal) := by
  simp [Ideal.ofBits, Ideal.ieee, -EReal.coe_mul]; norm_num

/-- The word of plus infinity is the top element. -/
theorem inf_eq : Ideal.ofBits .f32 0x7F800000#32 = (⊤ : EReal) := by
  simp [Ideal.ofBits, Ideal.ieee]

/-- The word of minus infinity is the bottom element. -/
theorem negInf_eq : Ideal.ofBits .f32 0xFF800000#32 = (⊥ : EReal) := by
  simp [Ideal.ofBits, Ideal.ieee]

/-- The cut on squared cross products is a positive real. -/
theorem tiny_pos : ∃ r : ℝ, 0 < r ∧ tiny = (r : EReal) := by
  refine ⟨(12379400 : ℝ) * 2 ^ (-90 : ℤ), by positivity, ?_⟩
  simp [tiny, Ideal.ofBits, Ideal.ieee, -EReal.coe_mul]

/-- The cut on dot products is a positive real, and the negative word is its negative. -/
theorem small_pos : ∃ r : ℝ, 0 < r ∧ small = (r : EReal) ∧ negSmall = ((-r : ℝ) : EReal) := by
  refine ⟨(14411519 : ℝ) * 2 ^ (-57 : ℤ), by positivity, ?_, ?_⟩
  · simp [small, Ideal.ofBits, Ideal.ieee, -EReal.coe_mul]
  · simp [negSmall, Ideal.ofBits, Ideal.ieee, -EReal.coe_mul, -EReal.coe_neg]

/-- The squared radius is not negative. -/
theorem radius2_nonneg : (0 : EReal) ≤ radius2 := by
  have : radius2 = (((12079596 : ℝ) * 2 ^ (-29 : ℤ) : ℝ) : EReal) := by
    simp [radius2, Ideal.ofBits, Ideal.ieee, -EReal.coe_mul]
  rw [this]; exact_mod_cast (by positivity : (0 : ℝ) ≤ 12079596 * 2 ^ (-29 : ℤ))

/-! ### The two forms of the angle -/

/-- The kernel's monotone score of a pair, from its dot product and its squared cross product. -/
def score (d s : EReal) : EReal :=
  if s < tiny then (if d ≤ negSmall then negOne else 1) else Ideal.div (d * max d (-d)) (d * d + s)

/-- The signed root of a score, cut to [-1, 1]: the cosine it stands for. -/
def cosOf (x : EReal) : EReal :=
  min 1 (max negOne (if 0 ≤ x then Ideal.sqrt (max x (-x)) else 0 - Ideal.sqrt (max x (-x))))

/-- The kernel's map of a score back to an angle. -/
def angleOf (x : EReal) : EReal :=
  Ideal.atan2 (Ideal.sqrt (max (1 - cosOf x * cosOf x) 0)) (cosOf x)

open Classical in
/-- The reference's guarded angle of a pair, from its dot product and its squared cross product. -/
def angle (d s : EReal) : EReal :=
  if s < tiny ∧ max d (-d) < small then 0
  else Ideal.atan2 (if s < tiny then 0 else Ideal.sqrt (if s < tiny then 1 else s))
    (if s < tiny ∧ max d (-d) < small then 1 else d)

/-- The root of a real that is not negative. -/
theorem sqrt_coe {r : ℝ} (h : 0 ≤ r) : Ideal.sqrt (r : EReal) = ((Real.sqrt r : ℝ) : EReal) := by
  show (if r < 0 then (⊥ : EReal) else _) = _
  rw [if_neg (not_lt.mpr h)]

/-- The absolute value of a real. -/
theorem abs_coe (r : ℝ) : max (r : EReal) (-(r : EReal)) = ((|r| : ℝ) : EReal) := by
  rw [← EReal.coe_neg]; exact (EReal.coe_strictMono.monotone.map_max (a := r) (b := -r)).symm

/-- The two-argument arctangent of a point of the upper half plane is the arc cosine of its abscissa over its radius. -/
theorem atan2_eq_arccos {x y r : ℝ} (hr : 0 < r) (hy : 0 ≤ y) (h : y ^ 2 + x ^ 2 = r ^ 2) :
    Ideal.atan2 (y : EReal) (x : EReal) = ((Real.arccos (x / r) : ℝ) : EReal) := by
  have hs : Real.sqrt (1 - (x / r) ^ 2) = y / r := by
    rw [show 1 - (x / r) ^ 2 = (y / r) ^ 2 by field_simp; linarith]
    exact Real.sqrt_sq (div_nonneg hy hr.le)
  show ((_ : ℝ) : EReal) = _
  congr 1
  by_cases hx : 0 < x
  · rw [if_pos hx, Real.arccos_eq_arctan (div_pos hx hr), hs]
    congr 1; field_simp
  · by_cases hx' : x < 0
    · rw [if_neg hx, if_pos hx', if_pos hy]
      have hn : 0 < -(x / r) := by rw [← neg_div]; exact div_pos (neg_pos.mpr hx') hr
      have h1 := Real.arccos_eq_arctan hn
      rw [Real.arccos_neg, neg_sq, hs] at h1
      have h2 : y / r / -(x / r) = -(y / x) := by field_simp
      rw [h2, Real.arctan_neg] at h1
      linarith
    · have h0 : x = 0 := le_antisymm (not_lt.mp hx) (not_lt.mp hx')
      subst h0
      have hy0 : 0 < y := by
        rcases hy.lt_or_eq with h' | h'
        · exact h'
        · exfalso; rw [← h'] at h; have := pow_pos hr 2; norm_num at h; linarith
      rw [if_neg hx, if_neg hx', if_pos hy0, zero_div, Real.arccos_zero]

/-- The signed root. -/
def sroot (x : ℝ) : ℝ := if 0 ≤ x then Real.sqrt |x| else -Real.sqrt |x|

/-- The signed root keeps the order. -/
theorem sroot_mono {x y : ℝ} (h : x ≤ y) : sroot x ≤ sroot y := by
  unfold sroot
  by_cases hx : 0 ≤ x
  · rw [if_pos hx, if_pos (hx.trans h), abs_of_nonneg hx, abs_of_nonneg (hx.trans h)]
    exact Real.sqrt_le_sqrt h
  · rw [if_neg hx]
    by_cases hy : 0 ≤ y
    · rw [if_pos hy]
      exact (neg_nonpos.mpr (Real.sqrt_nonneg _)).trans (Real.sqrt_nonneg _)
    · rw [if_neg hy, abs_of_neg (not_le.mp hx), abs_of_neg (not_le.mp hy)]
      exact neg_le_neg (Real.sqrt_le_sqrt (neg_le_neg h))

/-- The signed root of a number of [-1, 1] lies in [-1, 1]. -/
theorem sroot_mem {x : ℝ} (h : -1 ≤ x) (h' : x ≤ 1) : -1 ≤ sroot x ∧ sroot x ≤ 1 := by
  have e1 : sroot 1 = 1 := by simp [sroot]
  have e2 : sroot (-1) = -1 := by norm_num [sroot]
  exact ⟨e2 ▸ sroot_mono h, e1 ▸ sroot_mono h'⟩

/-- The cosine a real score of [-1, 1] stands for is its signed root. -/
theorem cosOf_coe {x : ℝ} (h : -1 ≤ x) (h' : x ≤ 1) : cosOf (x : EReal) = ((sroot x : ℝ) : EReal) := by
  obtain ⟨h1, h2⟩ := sroot_mem h h'
  have e : (if (0 : EReal) ≤ (x : EReal) then Ideal.sqrt (max (x : EReal) (-(x : EReal)))
      else 0 - Ideal.sqrt (max (x : EReal) (-(x : EReal)))) = ((sroot x : ℝ) : EReal) := by
    rw [abs_coe, sqrt_coe (abs_nonneg x)]
    unfold sroot
    by_cases hx : 0 ≤ x
    · rw [if_pos hx, if_pos (by exact_mod_cast hx)]
    · rw [if_neg hx, if_neg (by exact_mod_cast hx), zero_sub, EReal.coe_neg]
  unfold cosOf
  rw [e, negOne_eq, max_eq_right (by exact_mod_cast h1), min_eq_right (by exact_mod_cast h2)]

/-- The angle a real score of [-1, 1] stands for is the arc cosine of its signed root. -/
theorem angleOf_coe {x : ℝ} (h : -1 ≤ x) (h' : x ≤ 1) : angleOf (x : EReal) = ((Real.arccos (sroot x) : ℝ) : EReal) := by
  obtain ⟨h1, h2⟩ := sroot_mem h h'
  have hq : (0 : ℝ) ≤ 1 - sroot x * sroot x := by nlinarith
  unfold angleOf
  rw [cosOf_coe h h', ← EReal.coe_mul, ← EReal.coe_one, ← EReal.coe_sub, max_eq_left (by exact_mod_cast hq), sqrt_coe hq]
  rw [atan2_eq_arccos one_pos (Real.sqrt_nonneg _) (by rw [Real.sq_sqrt hq]; ring), div_one]

/-- The angle falls as the score grows. -/
theorem angleOf_anti {x y : ℝ} (hx : -1 ≤ x) (h : x ≤ y) (hy : y ≤ 1) : angleOf (y : EReal) ≤ angleOf (x : EReal) := by
  rw [angleOf_coe hx (h.trans hy), angleOf_coe (hx.trans h) hy]
  exact_mod_cast Real.antitone_arccos (sroot_mono h)

/-- On reals, the score is a real of [-1, 1] whose angle is the reference's. -/
theorem score_spec (d s : ℝ) :
    ∃ x : ℝ, -1 ≤ x ∧ x ≤ 1 ∧ score (d : EReal) (s : EReal) = (x : EReal) ∧ angleOf (x : EReal) = angle (d : EReal) (s : EReal) := by
  obtain ⟨t, ht, et⟩ := tiny_pos
  obtain ⟨c, hc, ec, ec'⟩ := small_pos
  unfold score angle
  rw [et, ec, ec', abs_coe]
  by_cases hs : s < t
  · have hs' : (s : EReal) < (t : EReal) := by exact_mod_cast hs
    by_cases hd : d ≤ -c
    · have hd' : (d : EReal) ≤ ((-c : ℝ) : EReal) := by exact_mod_cast hd
      have ha : ¬ ((|d| : ℝ) : EReal) < (c : EReal) := by
        rw [EReal.coe_lt_coe_iff, abs_of_neg (by linarith)]; linarith
      refine ⟨-1, le_refl _, by norm_num, ?_, ?_⟩
      · rw [if_pos hs', if_pos hd', negOne_eq]
      · simp only [hs', ha, and_false, if_true, if_false]
        rw [angleOf_coe (le_refl _) (by norm_num), ← EReal.coe_zero,
          atan2_eq_arccos (r := -d) (by linarith) le_rfl (by ring), show d / -d = -1 by field_simp [show d ≠ 0 by linarith]]
        norm_num [sroot]
    · have hd' : ¬ (d : EReal) ≤ ((-c : ℝ) : EReal) := by exact_mod_cast hd
      refine ⟨1, by norm_num, le_refl _, ?_, ?_⟩
      · rw [if_pos hs', if_neg hd', EReal.coe_one]
      · rw [angleOf_coe (by norm_num) (le_refl _)]
        by_cases ha : |d| < c
        · have ha' : ((|d| : ℝ) : EReal) < (c : EReal) := by exact_mod_cast ha
          rw [if_pos ⟨hs', ha'⟩]
          norm_num [sroot]
        · have ha' : ¬ ((|d| : ℝ) : EReal) < (c : EReal) := by exact_mod_cast ha
          have hd0 : 0 < d := by
            by_contra hneg
            rw [abs_of_nonpos (not_lt.mp hneg)] at ha
            linarith
          simp only [hs', ha', and_false, if_true, if_false]
          rw [← EReal.coe_zero, atan2_eq_arccos hd0 le_rfl (by ring), div_self hd0.ne']
          norm_num [sroot]
  · have hs' : ¬ (s : EReal) < (t : EReal) := by exact_mod_cast hs
    have hs0 : 0 < s := by linarith
    have hq : 0 < d * d + s := by nlinarith [mul_self_nonneg d]
    have hr : 0 < Real.sqrt (d * d + s) := Real.sqrt_pos.mpr hq
    have hr2 : Real.sqrt (d * d + s) ^ 2 = d * d + s := Real.sq_sqrt hq.le
    have hdiv : Ideal.div ((d : EReal) * ((|d| : ℝ) : EReal)) ((d : EReal) * (d : EReal) + (s : EReal))
        = ((d * |d| / (d * d + s) : ℝ) : EReal) := by
      rw [← EReal.coe_mul, ← EReal.coe_mul, ← EReal.coe_add]
      unfold Ideal.div
      rw [if_neg (by exact_mod_cast hq.ne'), ← EReal.coe_inv, ← EReal.coe_mul, div_eq_mul_inv]
    have hroot : sroot (d * |d| / (d * d + s)) = d / Real.sqrt (d * d + s) := by
      unfold sroot
      by_cases hd : 0 ≤ d
      · have h0 : 0 ≤ d * |d| / (d * d + s) := div_nonneg (mul_nonneg hd (abs_nonneg d)) hq.le
        rw [if_pos h0, abs_of_nonneg h0, abs_of_nonneg hd, Real.sqrt_div (mul_self_nonneg d), Real.sqrt_mul_self hd]
      · have hd' : d < 0 := not_le.mp hd
        have h0 : d * |d| / (d * d + s) < 0 := div_neg_of_neg_of_pos (mul_neg_of_neg_of_pos hd' (abs_pos.mpr hd'.ne)) hq
        rw [if_neg (not_le.mpr h0), abs_of_neg h0, abs_of_neg hd', ← neg_div, show -(d * -d) = (-d) * (-d) by ring,
          Real.sqrt_div (mul_self_nonneg _), Real.sqrt_mul_self (by linarith), neg_div, neg_neg]
    have hb : abs (d * |d|) ≤ d * d + s := by
      rw [abs_mul, abs_abs, abs_mul_abs_self]; linarith
    obtain ⟨hb1, hb2⟩ := abs_le.mp hb
    refine ⟨d * |d| / (d * d + s), ?_, ?_, ?_, ?_⟩
    · rw [le_div_iff₀ hq]; linarith
    · rw [div_le_one hq]; exact hb2
    · rw [if_neg hs', hdiv]
    · rw [angleOf_coe (by rw [le_div_iff₀ hq]; linarith) (by rw [div_le_one hq]; exact hb2), hroot]
      simp only [hs', false_and, if_false]
      rw [sqrt_coe hs0.le, atan2_eq_arccos hr (Real.sqrt_nonneg _) (by rw [Real.sq_sqrt hs0.le, hr2]; ring)]

end Cert.Proof.Ppf
end
-- ==== Proof.Pick.lean ====
/- The points a centre keeps: of a list of candidates in index order, the first 32 that satisfy a condition. Facts on
   counts and least scores over a growing prefix, and the comparison of the least score with the greatest angle. Nothing
   here reads a program. -/
module

public import proofs.«01_k».proof.Proof.Angle
public import Mathlib.Data.Nat.Count
public import Mathlib.Order.CompleteLattice.Finset

@[expose] public section

noncomputable section

namespace Cert.Proof.Ppf

open Idealize.ShloMosaic

variable (p : ℕ → Prop) [DecidablePred p] (f : ℕ → EReal)

/-- Candidate `j` satisfies the condition and fewer than 32 before it do. -/
def Kept (j : ℕ) : Prop := p j ∧ Nat.count p j < 32

instance : DecidablePred (Kept p) := fun j => inferInstanceAs (Decidable (_ ∧ _))

/-- The least score of the kept candidates below `n`, and 2 where there is none. -/
def best (n : ℕ) : EReal := min two ((Finset.range n).inf fun j => if Kept p j then f j else two)

/-- The count of the candidates below `n`, as an extended real. -/
def seen (n : ℕ) : EReal := ((Nat.count p n : ℕ) : EReal)

/-- No candidate has been seen at the start. -/
theorem seen_zero : seen p 0 = 0 := by simp [seen]

/-- The least score at the start is 2. -/
theorem best_zero : best p f 0 = two := by simp [best]

/-- The sum of the indicators of a stretch's candidates that stand before place `l` is their count. -/
theorem sum_before (a n l : ℕ) (hl : l ≤ n) :
    (∑ k : Fin n, (if p (a + k) then (1 : EReal) else 0) * (if (k : ℕ) < l then 1 else 0))
      = ((Nat.count (fun k => p (a + k)) l : ℕ) : EReal) := by
  have h1 : ∀ k : Fin n, (if p (a + k) then (1 : EReal) else 0) * (if (k : ℕ) < l then 1 else 0)
      = (fun j : ℕ => if p (a + j) ∧ j < l then (1 : EReal) else 0) (k : ℕ) := by
    intro k
    by_cases h : p (a + k) <;> by_cases h' : (k : ℕ) < l <;> simp [h, h']
  rw [Finset.sum_congr rfl fun k _ => h1 k, Fin.sum_univ_eq_sum_range (fun j : ℕ => if p (a + j) ∧ j < l then (1 : EReal) else 0) n,
    Finset.sum_boole, Nat.count_eq_card_filter_range]
  congr 2
  ext j
  simp only [Finset.mem_filter, Finset.mem_range]
  constructor
  · rintro ⟨_, h, h'⟩; exact ⟨h', h⟩
  · rintro ⟨h', h⟩; exact ⟨by omega, h, h'⟩

/-- The sum of a stretch's indicators adds its candidates to the count. -/
theorem seen_add (a n : ℕ) : seen p (a + n) = seen p a + ∑ k : Fin n, (if p (a + k) then (1 : EReal) else 0) := by
  have h := sum_before p a n n le_rfl
  have h1 : ∀ k : Fin n, (if p (a + k) then (1 : EReal) else 0) * (if (k : ℕ) < n then 1 else 0)
      = if p (a + k) then (1 : EReal) else 0 := fun k => by rw [if_pos k.isLt, mul_one]
  rw [Finset.sum_congr rfl fun k _ => h1 k] at h
  rw [h, seen, seen, Nat.count_add, Nat.cast_add]

/-- Within a stretch, the running count together with the count before the place decides whether a candidate is kept. -/
theorem seen_lt (a l : ℕ) :
    seen p a + ((Nat.count (fun k => p (a + k)) l : ℕ) : EReal) < Ideal.ofBits .f32 0x42000000#32 ↔ Nat.count p (a + l) < 32 := by
  rw [seen, ← Nat.cast_add, ← Nat.count_add, thirtyTwo_eq, ← EReal.coe_natCast, EReal.coe_lt_coe_iff]
  exact_mod_cast Iff.rfl

/-- A stretch of `n` candidates lowers the least score by its own kept candidates. -/
theorem best_add (a n : ℕ) :
    best p f (a + n) = min (best p f a) (Finset.univ.fold min ⊤ fun l : Fin n => if Kept p (a + l) then f (a + l) else two) := by
  show _ = min (best p f a) (Finset.univ.inf fun l : Fin n => if Kept p (a + l) then f (a + l) else two)
  unfold best
  rw [min_assoc]
  congr 1
  refine le_antisymm (le_min (Finset.inf_mono (Finset.range_mono (Nat.le_add_right a n))) ?_) ?_
  · refine Finset.le_inf fun l _ => ?_
    exact Finset.inf_le (f := fun j => if Kept p j then f j else two) (Finset.mem_range.mpr (Nat.add_lt_add_left l.isLt a))
  · refine Finset.le_inf fun j hj => ?_
    by_cases h : j < a
    · exact (min_le_left _ _).trans (Finset.inf_le (f := fun j => if Kept p j then f j else two) (Finset.mem_range.mpr h))
    · have hj' := Finset.mem_range.mp hj
      have e : j = a + (j - a) := by omega
      refine (min_le_right _ _).trans ?_
      have := Finset.inf_le (f := fun l : Fin n => if Kept p (a + l) then f (a + l) else two)
        (Finset.mem_univ (⟨j - a, by omega⟩ : Fin n))
      simp only [← e] at this
      exact this

/-- The least score among `n` candidates, one of which is kept, is the score of a kept one that no kept one undercuts. -/
theorem best_attained (n : ℕ) (hf : ∀ j, Kept p j → f j ≤ two) {i : ℕ} (hi : i < n) (hk : Kept p i) :
    ∃ j, j < n ∧ Kept p j ∧ best p f n = f j ∧ ∀ j', j' < n → Kept p j' → f j ≤ f j' := by
  obtain ⟨j, hj, hmin⟩ := Finset.exists_min_image ((Finset.range n).filter (Kept p)) f ⟨i, by simp [hi, hk]⟩
  simp only [Finset.mem_filter, Finset.mem_range] at hj hmin
  refine ⟨j, hj.1, hj.2, ?_, fun j' h h' => hmin j' ⟨h, h'⟩⟩
  unfold best
  refine le_antisymm ?_ (le_min (hf j hj.2) (Finset.le_inf fun j' h' => ?_))
  · refine (min_le_right _ _).trans ((Finset.inf_le (Finset.mem_range.mpr hj.1)).trans ?_)
    rw [if_pos hj.2]
  · by_cases h : Kept p j'
    · rw [if_pos h]; exact hmin j' ⟨Finset.mem_range.mp h', h⟩
    · rw [if_neg h]; exact hf j hj.2

/-- The angle of the least score is the greatest angle over any list `idx` of `K` candidates below `n` that runs through
    exactly the kept ones: each candidate's score is a real of [-1, 1], and its angle is `A` of it. -/
theorem angleOf_best (n K : ℕ) (A : ℕ → EReal) (idx : Fin K → ℕ)
    (hs : ∀ j, ∃ x : ℝ, -1 ≤ x ∧ x ≤ 1 ∧ f j = (x : EReal) ∧ angleOf (x : EReal) = A j)
    (hidx : ∀ k, idx k < n ∧ Kept p (idx k)) (hsurj : ∀ j, j < n → Kept p j → ∃ k, idx k = j) (k₀ : Fin K) :
    angleOf (best p f n) = Finset.univ.fold max ⊥ fun k => A (idx k) := by
  have htwo : ∀ j, Kept p j → f j ≤ two := fun j _ => by
    obtain ⟨x, _, h1, e, _⟩ := hs j
    rw [e, two_eq]
    exact_mod_cast h1.trans (by norm_num)
  obtain ⟨j, hjn, hj, e, hmin⟩ := best_attained p f n htwo (hidx k₀).1 (hidx k₀).2
  show _ = Finset.univ.sup fun k => A (idx k)
  obtain ⟨x, hx, hx', ex, ea⟩ := hs j
  rw [e, ex, ea]
  refine le_antisymm ?_ (Finset.sup_le fun k _ => ?_)
  · obtain ⟨k, hk'⟩ := hsurj j hjn hj
    rw [← hk']
    exact Finset.le_sup (f := fun k => A (idx k)) (Finset.mem_univ k)
  · obtain ⟨y, hy, hy', ey, eb⟩ := hs (idx k)
    have hle := hmin (idx k) (hidx k).1 (hidx k).2
    rw [ex, ey] at hle
    show A (idx k) ≤ A j
    rw [← eb, ← ea]
    exact angleOf_anti hx (by exact_mod_cast hle) hy'

end Cert.Proof.Ppf
end
-- ==== Proof.Pair.lean ====
/- The terms of the result: the squared distance of two points, the dot product and the squared cross product of a normal
   with an offset, a centre's ball, the score of a candidate, and the angle the whole calculation leaves at a centre.
   Stated of plain tables of extended reals; nothing here reads a program. -/
module

public import proofs.«01_k».proof.Proof.Pick

@[expose] public section

noncomputable section

namespace Cert.Proof.Ppf

open Idealize.ShloMosaic

/-- A table of two clouds of 4096 points of three components. -/
abbrev Cloud := Fin 2 → Fin 3 → Fin 4096 → EReal

/-- The squared distance of two points by the expansion of the square, cut below at 0. -/
def dist2 (a b : Fin 3 → EReal) : EReal :=
  max (a 0 * a 0 + a 1 * a 1 + a 2 * a 2 + (b 0 * b 0 + b 1 * b 1 + b 2 * b 2) - two * ∑ d, a d * b d) 0

/-- The dot product of a normal `n` with the offset from `a` to `b`. -/
def dotp (n a b : Fin 3 → EReal) : EReal :=
  n 0 * (b 0 - a 0) + n 1 * (b 1 - a 1) + n 2 * (b 2 - a 2)

/-- The squared length of the cross product of a normal `n` with the offset from `a` to `b`. -/
def crossSq (n a b : Fin 3 → EReal) : EReal :=
  (n 1 * (b 2 - a 2) - n 2 * (b 1 - a 1)) * (n 1 * (b 2 - a 2) - n 2 * (b 1 - a 1))
    + (n 2 * (b 0 - a 0) - n 0 * (b 2 - a 2)) * (n 2 * (b 0 - a 0) - n 0 * (b 2 - a 2))
    + (n 0 * (b 1 - a 1) - n 1 * (b 0 - a 0)) * (n 0 * (b 1 - a 1) - n 1 * (b 0 - a 0))

/-- Point `j` of cloud `b`. -/
def pt (X : Cloud) (b : Fin 2) (j : ℕ) : Fin 3 → EReal := fun d => X b d (Fin.ofNat 4096 j)

/-- A point read at a place below the length is the table's. -/
theorem pt_val (X : Cloud) (b : Fin 2) (j : Fin 4096) (d : Fin 3) : pt X b j d = X b d j := by
  unfold pt; congr 1; exact Fin.ext (Nat.mod_eq_of_lt j.isLt)

/-- Point `j` lies in the ball about point `i`. -/
def Near (X : Cloud) (b : Fin 2) (i j : ℕ) : Prop := dist2 (pt X b i) (pt X b j) ≤ radius2

instance (X : Cloud) (b : Fin 2) (i : ℕ) : DecidablePred (Near X b i) := fun j => inferInstanceAs (Decidable (_ ≤ _))

/-- The score of candidate `j` about centre `i`. -/
def scoreAt (X N : Cloud) (b : Fin 2) (i j : ℕ) : EReal :=
  score (dotp (pt N b i) (pt X b i) (pt X b j)) (crossSq (pt N b i) (pt X b i) (pt X b j))

/-- The guarded angle of candidate `j` about centre `i`. -/
def angleAt (X N : Cloud) (b : Fin 2) (i j : ℕ) : EReal :=
  angle (dotp (pt N b i) (pt X b i) (pt X b j)) (crossSq (pt N b i) (pt X b i) (pt X b j))

/-- What the calculation leaves at centre `i`: the angle of the least score among the kept points of its ball. -/
def result (X N : Cloud) (b : Fin 2) (i : ℕ) : EReal := angleOf (best (Near X b i) (scoreAt X N b i) 4096)

/-- The reals stand for the finite table. -/
theorem real_of_lt_top {x : EReal} (h : max x (-x) < ⊤) : ∃ r : ℝ, x = (r : EReal) := by
  induction x using EReal.rec with
  | bot => simp at h
  | coe r => exact ⟨r, rfl⟩
  | top => simp at h

/-- A finite centre lies in its own ball. -/
theorem near_self (X : Cloud) (hX : ∀ b d j, ∃ r : ℝ, X b d j = (r : EReal)) (b : Fin 2) (i : ℕ) : Near X b i i := by
  obtain ⟨x, hx⟩ := hX b 0 (Fin.ofNat 4096 i)
  obtain ⟨y, hy⟩ := hX b 1 (Fin.ofNat 4096 i)
  obtain ⟨z, hz⟩ := hX b 2 (Fin.ofNat 4096 i)
  unfold Near dist2 pt
  rw [Fin.sum_univ_three, hx, hy, hz, two_eq]
  refine max_le ?_ radius2_nonneg
  refine le_trans (le_of_eq ?_) radius2_nonneg
  rw [← EReal.coe_zero]
  norm_cast
  ring

/-- On finite tables every score is a real of [-1, 1] whose angle is the guarded one. -/
theorem scoreAt_spec (X N : Cloud) (hX : ∀ b d j, ∃ r : ℝ, X b d j = (r : EReal)) (hN : ∀ b d j, ∃ r : ℝ, N b d j = (r : EReal))
    (b : Fin 2) (i j : ℕ) :
    ∃ x : ℝ, -1 ≤ x ∧ x ≤ 1 ∧ scoreAt X N b i j = (x : EReal) ∧ angleOf (x : EReal) = angleAt X N b i j := by
  choose x hx using fun d => hX b d (Fin.ofNat 4096 i)
  choose y hy using fun d => hX b d (Fin.ofNat 4096 j)
  choose n hn using fun d => hN b d (Fin.ofNat 4096 i)
  have ed : dotp (pt N b i) (pt X b i) (pt X b j)
      = ((n 0 * (y 0 - x 0) + n 1 * (y 1 - x 1) + n 2 * (y 2 - x 2) : ℝ) : EReal) := by
    unfold dotp pt; simp only [hx, hy, hn]; norm_cast
  have ec : crossSq (pt N b i) (pt X b i) (pt X b j)
      = (((n 1 * (y 2 - x 2) - n 2 * (y 1 - x 1)) * (n 1 * (y 2 - x 2) - n 2 * (y 1 - x 1))
        + (n 2 * (y 0 - x 0) - n 0 * (y 2 - x 2)) * (n 2 * (y 0 - x 0) - n 0 * (y 2 - x 2))
        + (n 0 * (y 1 - x 1) - n 1 * (y 0 - x 0)) * (n 0 * (y 1 - x 1) - n 1 * (y 0 - x 0)) : ℝ) : EReal) := by
    unfold crossSq pt; simp only [hx, hy, hn]; norm_cast
  unfold scoreAt angleAt
  rw [ed, ec]
  exact score_spec _ _

end Cert.Proof.Ppf
end
-- ==== Proof.Finite.lean ====
/- The precondition read back: every entry of both arrays is a real. -/
module

public import proofs.«01_k».proof.Pre_finite
public import proofs.«01_k».proof.Proof.Pair
public import Idealize.ShloMosaic.Lib.ReduceAll
public import Idealize.ShloMosaic.Lib.Pipeline.ValueKit

@[expose] public section

set_option maxRecDepth 16384

noncomputable section

namespace Cert.Proof.Finite

open Idealize.ShloMosaic Cert.Pre_finite Cert.Proof.Ppf

/-- The precondition's shape facts hold. -/
theorem facts : Cert.Pre_finite.Facts := ⟨by decide, by decide, by decide⟩

variable [Cert.Pre_finite.Facts]

/-- An entry whose magnitude lies below infinity is a real. -/
theorem entry (x : FVec Ideal S2x3x4096 .f32) (j : S2x3x4096.Idx)
    (h : cmpf .olt (Host.absf x) (broadcastInDim S2x3x4096 ![] Facts.bcast_S_S2x3x4096 (constant (F := Ideal) S_ .f32 0x7F800000#32)) j = 1#1) :
    ∃ r : ℝ, x j = (r : EReal) := by
  refine real_of_lt_top ?_
  have e : BitVec.ofBool (decide (max (x j : EReal) (-(x j : EReal)) < Ideal.ofBits .f32 0x7F800000#32)) = 1#1 := h
  rw [inf_eq] at e
  by_contra hn
  rw [decide_eq_false hn] at e
  exact absurd e (by decide)

/-- Under the precondition every entry of either array is a real. -/
theorem entries (x y : FVec Ideal S2x3x4096 .f32) (h : Cert.Pre_finite.fn x y = fun _ => 1#1) :
    (∀ j, ∃ r : ℝ, x j = (r : EReal)) ∧ ∀ j, ∃ r : ℝ, y j = (r : EReal) := by
  have : Subsingleton S_.Idx := ⟨fun a b => funext fun d => d.elim0⟩
  have e := congrFun h ix0
  unfold Cert.Pre_finite.fn at e
  have e' := IntOp.andi_eq_one.1 e
  exact ⟨fun j => entry x j (Host.reduce_andi_all _ _ _ _ _ e'.1 j), fun j => entry y j (Host.reduce_andi_all _ _ _ _ _ e'.2 j)⟩

end Cert.Proof.Finite
end
-- ==== Proof.Tile.lean ====
/- What one column tile does to a row tile: the ball's mask, the scores, the new least score, the new count and the angle
   of a least score, each at an index of the blocks it reads. -/
module

public import proofs.«01_k».proof.Proof.Gen.KernelIdeal.Frame
public import proofs.«01_k».proof.Proof.Pair
public import Idealize.ShloMosaic.Lib.Pipeline.ValueKit

@[expose] public section

set_option maxRecDepth 16384

noncomputable section

namespace Cert.Proof.Tile

open Idealize.ShloMosaic Idealize.ShloMosaic.TcCoe Idealize.SL.Sem Cert.KernelIdeal Cert.KernelIdeal.Gen Cert.Proof.Ppf

/-- The mask at row `p` and column `l`: the squared distance of the two points is at most the squared radius. -/
theorem pay18_at (v3 : Vec Ideal S1x256x3 .f32) (v7 : Vec Ideal S1x3x512 .f32) (p : Fin 256) (l : Fin 512) :
    k0_pay18 v3 v7 (ix2 p l)
      = BitVec.ofBool (decide (dist2 (fun d => v3 (ix3 0 p d)) (fun d => v7 (ix3 0 d l)) ≤ radius2)) := by
  pointwise [k0_pay18, k0_pay9, k0_pay10, k0_pay11, k0_pay15, k0_pay16, k0_pay17, k0_pay6, k0_pay8]
  rfl

/-- The score at row `p` and column `l`. -/
theorem pay21_at (v3 v5 : Vec Ideal S1x256x3 .f32) (v7 : Vec Ideal S1x3x512 .f32) (p : Fin 256) (l : Fin 512) :
    k0_pay21 (k0_pay10 v3) (k0_pay11 v3) (k0_pay12 v5) (k0_pay13 v5) (k0_pay14 v5) (k0_pay16 v7) (k0_pay17 v7) (k0_pay19 v7) (k0_pay20 v3) (ix2 p l)
      = score (dotp (fun d => v5 (ix3 0 p d)) (fun d => v3 (ix3 0 p d)) (fun d => v7 (ix3 0 d l)))
          (crossSq (fun d => v5 (ix3 0 p d)) (fun d => v3 (ix3 0 p d)) (fun d => v7 (ix3 0 d l))) := by
  pointwise [k0_pay21, k0_pay9, k0_pay10, k0_pay11, k0_pay12, k0_pay13, k0_pay14, k0_pay15, k0_pay16, k0_pay17, k0_pay6, k0_pay7, k0_pay8, k0_pay19, k0_pay20]
  rfl

/-- A truth value widened to a word and read as a number is its indicator. -/
theorem ind (b : Bool) : FloatOps.sitofp (F := Ideal) FTy.f32 (BitVec.setWidth 32 (BitVec.ofBool b)) = if b then (1 : EReal) else 0 := by
  cases b
  · show (((0 : ℤ) : ℝ) : EReal) = 0
    simp
  · show (((1 : ℤ) : ℝ) : EReal) = 1
    simp

/-- The new least score of row `p`, from the mask's truth values `q` along the row. -/
theorem pay1_at (M : IVec S256x512 1) (f : FVec Ideal S256x512 .f32) (T : Vec Ideal S512x512 .bf16) (cnt mn : Vec Ideal S256x1 .f32) (p : Fin 256)
    (q : Fin 512 → Bool) (hM : ∀ l, M (ix2 p l) = BitVec.ofBool (q l)) :
    k0_pay1 M f (k0_pay22 M) (k0_pay23 T) (constant S256x512 .f32 0x00000000#32) cnt mn (ix2 p 0)
      = min (mn (ix2 p 0)) (Finset.univ.fold min ⊤ fun l : Fin 512 =>
          if q l = true ∧ cnt (ix2 p 0) + ∑ k : Fin 512, (if q k then (1 : EReal) else 0) * T (ix2 k l) < Ideal.ofBits .f32 0x42000000#32
          then f (ix2 p l) else two) := by
  pointwise [k0_pay1, k0_pay22, k0_pay23]
  rw [inf_eq]
  congr 1
  refine Finset.fold_congr fun l _ => ?_
  simp only [hM, ind]
  by_cases h1 : q l = true
  · by_cases h2 : cnt (ix2 p 0) + ∑ k : Fin 512, (if q k then (1 : EReal) else 0) * T (ix2 k l) < Ideal.ofBits .f32 0x42000000#32
    · rw [if_pos ⟨h1, h2⟩, h1, decide_eq_true h2]; rfl
    · rw [if_neg (fun h => h2 h.2), h1, decide_eq_false h2]; rfl
  · rw [if_neg (fun h => h1 h.1), eq_false_of_ne_true h1]
    by_cases h2 : cnt (ix2 p 0) + ∑ k : Fin 512, (if q k then (1 : EReal) else 0) * T (ix2 k l) < Ideal.ofBits .f32 0x42000000#32
    · rw [decide_eq_true h2]; rfl
    · rw [decide_eq_false h2]; rfl

/-- The new count of row `p`. -/
theorem pay2_at (M : IVec S256x512 1) (cnt : Vec Ideal S256x1 .f32) (p : Fin 256)
    (q : Fin 512 → Bool) (hM : ∀ l, M (ix2 p l) = BitVec.ofBool (q l)) :
    k0_pay2 M cnt (ix2 p 0) = cnt (ix2 p 0) + ∑ k : Fin 512, (if q k then (1 : EReal) else 0) := by
  pointwise [k0_pay2]
  simp only [hM, ind]

/-- The result of row `p`: the angle of its least score. -/
theorem pay3_at (mn : Vec Ideal S256x1 .f32) (p : Fin 256) : k0_pay3 mn (ix3 0 p 0) = angleOf (mn (ix2 p 0)) := by
  pointwise [k0_pay3]
  rfl

/-- The count starts at 0. -/
theorem pay4_at (p : Fin 256) : k0_pay4 (F := Ideal) (ix2 p 0) = 0 := by
  pointwise [k0_pay4]

/-- The least score starts at 2. -/
theorem pay5_at (p : Fin 256) : k0_pay5 (F := Ideal) (ix2 p 0) = two := by
  pointwise [k0_pay5]

end Cert.Proof.Tile
end
-- ==== Proof.Blocks.lean ====
/- Where the blocks of a grid point lie in the arguments: the columns' coordinates, the rows' coordinates and normals, and
   the table of ones above the diagonal. -/
module

public import proofs.«01_k».proof.Proof.Tile

@[expose] public section

set_option maxRecDepth 16384

noncomputable section

namespace Cert.Proof.Tile

open Idealize.ShloMosaic Idealize.ShloMosaic.TcCoe Idealize.SL.Sem Cert.KernelIdeal Cert.KernelIdeal.Gen Cert.Proof.Ppf

variable (m : (ℓ : Loc nD τ sig) → Buf (Elt Ideal) ℓ)

/-- The coordinates a device holds, as a table. -/
def coords (c : Dev nD) : Cloud := fun b d j => m ((c : Thread nD τ).loc main_arg0) (ix3 b d j)

/-- The normals a device holds, as a table. -/
def normals (c : Dev nD) : Cloud := fun b d j => m ((c : Thread nD τ).loc main_arg1) (ix3 b d j)

/-- The block indices of a grid point. -/
theorem idx : ∀ t : Fin cfg0.N, win0_0.index t = ![t.val / 128, 0, t.val % 8] ∧ win0_1.index t = ![t.val / 128, t.val / 8 % 16, 0]
    ∧ win0_2.index t = ![t.val / 128, t.val / 8 % 16, 0] ∧ win0_3.index t = ![0, 0]
    ∧ win0_4.index t = ![t.val / 128, t.val / 8 % 16, 0] :=
  (by decide +kernel : ∀ t : Fin grid0.N, _)

/-- The columns' coordinates. -/
theorem cols_at (c : Dev nD) (t : Fin cfg0.N) (d : Fin 3) (l : Fin 512) (hb : t.val / 128 < 2) :
    (show FVec Ideal S1x3x512 .f32 from iblk m c 0 t) (ix3 0 d l) = pt (coords m c) ⟨t.val / 128, hb⟩ (512 * (t.val % 8) + l) d := by
  have hN : t.val < 256 := lt_of_lt_of_eq t.isLt N_0
  unfold pt coords
  blk_point [iblk, V, idx t]
  show _ = (512 * (t.val % 8) + l.val) % 4096
  omega

/-- The transposed coordinates the kernel is entered with. -/
theorem entry_v0 (c : Dev nD) : V m c main_v0 = transpose S2x4096x3 [0, 2, 1] (m ((c : Thread nD τ).loc main_arg0)) transposes_S2x3x4096_S2x4096x3_0_2_1 := by
  show StableHlo.after hostOps0 _ (Proc.devRef .tc main_v0) = _
  after_results

/-- The transposed normals the kernel is entered with. -/
theorem entry_v1 (c : Dev nD) : V m c main_v1 = transpose S2x4096x3 [0, 2, 1] (m ((c : Thread nD τ).loc main_arg1)) transposes_S2x3x4096_S2x4096x3_0_2_1 := by
  show StableHlo.after hostOps0 _ (Proc.devRef .tc main_v1) = _
  after_results

/-- The table the kernel is entered with compares the row's place with the column's. -/
theorem entry_v8 (c : Dev nD) : V m c main_v8
    = uitofp (F := Ideal) .bf16 (cmpi .slt (broadcastInDim S512x512 ![0, 1] bcast_S512x1_S512x512_0_1 (broadcastInDim S512x1 ![0] bcast_S512_S512x1_0 (iotaInDim S512 32 0)))
        (broadcastInDim S512x512 ![0, 1] bcast_S1x512_S512x512_0_1 (broadcastInDim S1x512 ![1] bcast_S512_S1x512_1 (iotaInDim S512 32 0)))) := by
  unfold V
  after_results
  try rfl

/-- The rows' coordinates. -/
theorem rows_at (c : Dev nD) (t : Fin cfg0.N) (d : Fin 3) (p : Fin 256) (hb : t.val / 128 < 2) :
    (show FVec Ideal S1x256x3 .f32 from iblk m c 1 t) (ix3 0 p d) = pt (coords m c) ⟨t.val / 128, hb⟩ (256 * (t.val / 8 % 16) + p) d := by
  have hN : t.val < 256 := lt_of_lt_of_eq t.isLt N_0
  unfold pt coords
  blk_simp [iblk, idx t]
  rw [entry_v0]
  pointwise
  blk_point [idx t]
  show _ = (256 * (t.val / 8 % 16) + p.val) % 4096
  omega

/-- The rows' normals. -/
theorem norms_at (c : Dev nD) (t : Fin cfg0.N) (d : Fin 3) (p : Fin 256) (hb : t.val / 128 < 2) :
    (show FVec Ideal S1x256x3 .f32 from iblk m c 2 t) (ix3 0 p d) = pt (normals m c) ⟨t.val / 128, hb⟩ (256 * (t.val / 8 % 16) + p) d := by
  have hN : t.val < 256 := lt_of_lt_of_eq t.isLt N_0
  unfold pt normals
  blk_simp [iblk, idx t]
  rw [entry_v1]
  pointwise
  blk_point [idx t]
  show _ = (256 * (t.val / 8 % 16) + p.val) % 4096
  omega

/-- The table of ones above the diagonal. -/
theorem above_at (c : Dev nD) (t : Fin cfg0.N) (k l : Fin 512) :
    (show FVec Ideal S512x512 .bf16 from iblk m c 3 t) (ix2 k l) = if (k : ℕ) < l then (1 : EReal) else 0 := by
  have e : (show FVec Ideal S512x512 .bf16 from iblk m c 3 t) (ix2 k l) = (show FVec Ideal S512x512 .bf16 from V m c main_v8) (ix2 k l) := by
    blk_ext [iblk, idx t]
  rw [e, entry_v8]
  pointwise
  have hk := k.isLt
  have hl := l.isLt
  rw [WordCmp.cmpi_slt_ofNat (by omega) (by omega)]
  by_cases h : (k : ℕ) < l
  · rw [if_pos h, decide_eq_true h]
    show (((1 : ℕ) : ℝ) : EReal) = 1
    simp
  · rw [if_neg h, decide_eq_false h]
    show (((0 : ℕ) : ℝ) : EReal) = 0
    simp

end Cert.Proof.Tile
end
-- ==== Proof.Accum.lean ====
/- The two scratch columns after every grid point: the count of the ball's points among the columns seen so far, and the
   least score of the kept ones; and the block the last column tile leaves. -/
module

public import proofs.«01_k».proof.Proof.Blocks
public import Idealize.ShloMosaic.Lib.Pipeline.ReadBack

@[expose] public section

set_option maxRecDepth 16384

noncomputable section

namespace Cert.Proof.Tile

open Idealize.ShloMosaic Idealize.ShloMosaic.TcCoe Idealize.SL.Sem Cert.KernelIdeal Cert.KernelIdeal.Gen Cert.Proof.Ppf

variable (m : (ℓ : Loc nD τ sig) → Buf (Elt Ideal) ℓ)

variable {b : Fin 2} {i : ℕ}

/-- The mask a grid point computes. -/
theorem mask_at (c : Dev nD) (t : Fin cfg0.N) (p : Fin 256) (hb : (b : ℕ) = t.val / 128) (hi : i = 256 * (t.val / 8 % 16) + p) (l : Fin 512) :
    k0_pay18 (iblk m c 1 t) (iblk m c 0 t) (ix2 p l)
      = BitVec.ofBool (decide (Near (coords m c) b i (512 * (t.val % 8) + l))) := by
  rw [pay18_at]
  have e1 : (fun d => (show FVec Ideal S1x256x3 .f32 from iblk m c 1 t) (ix3 0 p d)) = pt (coords m c) b i :=
    funext fun d => by rw [show b = ⟨t.val / 128, hb ▸ b.isLt⟩ from Fin.ext hb, hi]; exact rows_at m c t d p _
  have e0 : (fun d => (show FVec Ideal S1x3x512 .f32 from iblk m c 0 t) (ix3 0 d l)) = pt (coords m c) b (512 * (t.val % 8) + l) :=
    funext fun d => by rw [show b = ⟨t.val / 128, hb ▸ b.isLt⟩ from Fin.ext hb]; exact cols_at m c t d l _
  exact congrArg BitVec.ofBool (by rw [show (fun d => (iblk m c 1 t : Vec Ideal S1x256x3 .f32) (ix3 0 p d)) = _ from e1, show (fun d => (iblk m c 0 t : Vec Ideal S1x3x512 .f32) (ix3 0 d l)) = _ from e0]; rfl)

/-- The scores a grid point computes. -/
theorem scores_at (c : Dev nD) (t : Fin cfg0.N) (p : Fin 256) (hb : (b : ℕ) = t.val / 128) (hi : i = 256 * (t.val / 8 % 16) + p) (l : Fin 512) :
    k0_pay21 (F := Ideal) (k0_pay10 (iblk m c 1 t)) (k0_pay11 (iblk m c 1 t)) (k0_pay12 (iblk m c 2 t)) (k0_pay13 (iblk m c 2 t)) (k0_pay14 (iblk m c 2 t))
        (k0_pay16 (iblk m c 0 t)) (k0_pay17 (iblk m c 0 t)) (k0_pay19 (iblk m c 0 t)) (k0_pay20 (iblk m c 1 t)) (ix2 p l)
      = scoreAt (coords m c) (normals m c) b i (512 * (t.val % 8) + l) := by
  rw [pay21_at]
  have e1 : (fun d => (show FVec Ideal S1x256x3 .f32 from iblk m c 1 t) (ix3 0 p d)) = pt (coords m c) b i :=
    funext fun d => by rw [show b = ⟨t.val / 128, hb ▸ b.isLt⟩ from Fin.ext hb, hi]; exact rows_at m c t d p _
  have e2 : (fun d => (show FVec Ideal S1x256x3 .f32 from iblk m c 2 t) (ix3 0 p d)) = pt (normals m c) b i :=
    funext fun d => by rw [show b = ⟨t.val / 128, hb ▸ b.isLt⟩ from Fin.ext hb, hi]; exact norms_at m c t d p _
  have e0 : (fun d => (show FVec Ideal S1x3x512 .f32 from iblk m c 0 t) (ix3 0 d l)) = pt (coords m c) b (512 * (t.val % 8) + l) :=
    funext fun d => by rw [show b = ⟨t.val / 128, hb ▸ b.isLt⟩ from Fin.ext hb]; exact cols_at m c t d l _
  rw [show (fun d => (iblk m c 1 t : Vec Ideal S1x256x3 .f32) (ix3 0 p d)) = _ from e1, show (fun d => (iblk m c 0 t : Vec Ideal S1x3x512 .f32) (ix3 0 d l)) = _ from e0,
    show (fun d => (iblk m c 2 t : Vec Ideal S1x256x3 .f32) (ix3 0 p d)) = _ from e2]
  rfl

/-- The count a grid point leaves, from the count before it. -/
theorem count_step (c : Dev nD) (t : Fin cfg0.N) (p : Fin 256) (hb : (b : ℕ) = t.val / 128) (hi : i = 256 * (t.val / 8 % 16) + p) (cnt : Vec Ideal S256x1 .f32)
    (hc : cnt (ix2 p 0) = seen (Near (coords m c) b i) (512 * (t.val % 8))) :
    k0_pay2 (k0_pay18 (iblk m c 1 t) (iblk m c 0 t)) cnt (ix2 p 0) = seen (Near (coords m c) b i) (512 * (t.val % 8) + 512) := by
  rw [pay2_at _ cnt p _ (mask_at m c t p hb hi), seen_add, hc]
  simp only [decide_eq_true_eq]

/-- The least score a grid point leaves, from the least score and the count before it. -/
theorem best_step (c : Dev nD) (t : Fin cfg0.N) (p : Fin 256) (hb : (b : ℕ) = t.val / 128) (hi : i = 256 * (t.val / 8 % 16) + p) (cnt mn : Vec Ideal S256x1 .f32)
    (hc : cnt (ix2 p 0) = seen (Near (coords m c) b i) (512 * (t.val % 8)))
    (hm : mn (ix2 p 0) = best (Near (coords m c) b i) (scoreAt (coords m c) (normals m c) b i) (512 * (t.val % 8))) :
    k0_pay1 (k0_pay18 (iblk m c 1 t) (iblk m c 0 t))
        (k0_pay21 (F := Ideal) (k0_pay10 (iblk m c 1 t)) (k0_pay11 (iblk m c 1 t)) (k0_pay12 (iblk m c 2 t)) (k0_pay13 (iblk m c 2 t)) (k0_pay14 (iblk m c 2 t))
          (k0_pay16 (iblk m c 0 t)) (k0_pay17 (iblk m c 0 t)) (k0_pay19 (iblk m c 0 t)) (k0_pay20 (iblk m c 1 t)))
        (k0_pay22 (k0_pay18 (iblk m c 1 t) (iblk m c 0 t))) (k0_pay23 (iblk m c 3 t)) (constant S256x512 .f32 0x00000000#32) cnt mn (ix2 p 0)
      = best (Near (coords m c) b i) (scoreAt (coords m c) (normals m c) b i) (512 * (t.val % 8) + 512) := by
  rw [pay1_at _ _ _ cnt mn p _ (mask_at m c t p hb hi), best_add, hc, hm]
  congr 1
  refine Finset.fold_congr fun l _ => ?_
  rw [scores_at m c t p hb hi l]
  have e : (∑ k : Fin 512, (if decide (Near (coords m c) b i (512 * (t.val % 8) + k)) = true then (1 : EReal) else 0)
        * (iblk m c 3 t : Vec Ideal S512x512 .bf16) (ix2 k l))
      = ((Nat.count (fun k => Near (coords m c) b i (512 * (t.val % 8) + k)) l : ℕ) : EReal) := by
    rw [← sum_before (Near (coords m c) b i) (512 * (t.val % 8)) 512 l l.isLt.le]
    refine Finset.sum_congr rfl fun k _ => ?_
    rw [show (iblk m c 3 t : Vec Ideal S512x512 .bf16) (ix2 k l) = _ from above_at m c t k l]
    simp only [decide_eq_true_eq]
  rw [e]
  refine if_congr ?_ rfl rfl
  rw [seen_lt, decide_eq_true_eq]
  rfl

/-- At a row tile's first column tile the scratch columns start over. -/
theorem scratch_first (c : Dev nD) (t : Fin cfg0.N) (p : Fin 256) (hb : (b : ℕ) = t.val / 128) (hi : i = 256 * (t.val / 8 % 16) + p)
    (h0 : t.val % 8 = 0) :
    (outsAt0 m c t.val t.isLt).2.1 (ix2 p 0) = seen (Near (coords m c) b i) (512 * (t.val % 8) + 512)
      ∧ (outsAt0 m c t.val t.isLt).2.2 (ix2 p 0) = best (Near (coords m c) b i) (scoreAt (coords m c) (normals m c) b i) (512 * (t.val % 8) + 512) := by
  have hc : k0_pay4 (F := Ideal) (ix2 p 0) = seen (Near (coords m c) b i) (512 * (t.val % 8)) := by
    rw [pay4_at, h0]; exact (seen_zero _).symm
  have hm : k0_pay5 (F := Ideal) (ix2 p 0) = best (Near (coords m c) b i) (scoreAt (coords m c) (normals m c) b i) (512 * (t.val % 8)) := by
    rw [pay5_at, h0]; exact (best_zero _ _).symm
  rw [outsAt0_A m c t h0 (by omega)]
  constructor
  · frame_out
    exact count_step m c t p hb hi _ hc
  · frame_out
    exact best_step m c t p hb hi _ _ hc hm

/-- The scratch columns after point `n`: the count and the least score over the columns up to its tile's end. -/
theorem scratch (c : Dev nD) (p : Fin 256) : ∀ (n : ℕ) (h : n < cfg0.N), (b : ℕ) = n / 128 → i = 256 * (n / 8 % 16) + p →
    (outsAt0 m c n h).2.1 (ix2 p 0) = seen (Near (coords m c) b i) (512 * (n % 8) + 512)
      ∧ (outsAt0 m c n h).2.2 (ix2 p 0) = best (Near (coords m c) b i) (scoreAt (coords m c) (normals m c) b i) (512 * (n % 8) + 512) := by
  intro n
  induction n with
  | zero => exact fun h hb hi => scratch_first m c ⟨0, h⟩ p hb hi rfl
  | succ n ih =>
    intro h hb hi
    by_cases h0 : (n + 1) % 8 = 0
    · exact scratch_first m c ⟨n + 1, h⟩ p hb hi h0
    · obtain ⟨ihc, ihm⟩ := ih (Nat.lt_of_succ_lt h) (by omega) (by omega)
      rw [show 512 * (n % 8) + 512 = 512 * ((n + 1) % 8) by omega] at ihc ihm
      by_cases h1 : (n + 1) % 8 = 7
      · rw [show outsAt0 m c (n + 1) h = _ from outsAt0_C m c ⟨n + 1, h⟩ h0 h1]
        constructor
        · frame_out
          simp only [read_unread_whole]
          exact count_step m c ⟨n + 1, h⟩ p hb hi _ ihc
        · frame_out
          simp only [read_unread_whole]
          exact best_step m c ⟨n + 1, h⟩ p hb hi _ _ ihc ihm
      · rw [show outsAt0 m c (n + 1) h = _ from outsAt0_B m c ⟨n + 1, h⟩ h0 h1]
        constructor
        · frame_out
          simp only [read_unread_whole]
          exact count_step m c ⟨n + 1, h⟩ p hb hi _ ihc
        · frame_out
          simp only [read_unread_whole]
          exact best_step m c ⟨n + 1, h⟩ p hb hi _ _ ihc ihm

/-- The block the last column tile of a row tile leaves. -/
theorem block_at (c : Dev nD) (t : Fin cfg0.N) (p : Fin 256) (hb : (b : ℕ) = t.val / 128) (hi : i = 256 * (t.val / 8 % 16) + p)
    (h1 : t.val % 8 = 7) :
    (outsAt0 m c t.val t.isLt).1 (ix3 0 p 0) = result (coords m c) (normals m c) b i := by
  have hm := (scratch m c p t.val t.isLt hb hi).2
  rw [outsAt0_C m c t (by omega) h1] at hm ⊢
  revert hm
  frame_out
  intro hm
  rw [pay3_at, hm, h1]
  rfl

/-- The array the kernel leaves, index by index. -/
def leaves (c : Dev nD) : FVec Ideal S2x4096x1 .f32 := fun j => result (coords m c) (normals m c) (j 0) (j 1 : ℕ)

/-- The block a flushing point leaves is the results of its rows. -/
theorem block_emb (c : Dev nD) (t : Fin cfg0.N) (y : S1x256x1.Idx) (h1 : t.val % 8 = 7) :
    (outsAt0 m c t.val t.isLt).1 y = leaves m c ((win0_4.blk t).view.emb y) := by
  have hN : t.val < 256 := lt_of_lt_of_eq t.isLt N_0
  have e0 : (((win0_4.blk t).view.emb y) 0 : ℕ) = t.val / 128 := by
    blk_simp [idx t]
  have e1 : (((win0_4.blk t).view.emb y) 1 : ℕ) = 256 * (t.val / 8 % 16) + (y 1 : Fin 256) := by
    blk_simp [idx t]
    omega
  have hy : y = ix3 0 (y 1) 0 := by
    funext a
    fin_cases a
    · exact Subsingleton.elim (α := Fin 1) _ _
    · rfl
    · exact Subsingleton.elim (α := Fin 1) _ _
  rw [show (outsAt0 m c t.val t.isLt).1 y = _ from congrArg (outsAt0 m c t.val t.isLt).1 hy]
  exact block_at m c t (y 1) e0 e1 h1

/-- After the last point the output array holds every centre's result. -/
theorem final (c : Dev nD) : (dats m 0 c).arrAt 4 (cfgs 0).N = leaves m c := by
  refine (dats m 0 c).arrAt_eq_of_covers 4 _ (by decide +kernel) fun t hf y => ?_
  have h1 := (flush0_4 t).mp hf
  have hN : t.val < 256 := lt_of_lt_of_eq t.isLt N_0
  blk_simp
  rw [after0_4]
  exact block_emb m c t y h1

/-- The result the program ends with is the final array, reshaped. -/
theorem tail (c : Dev nD) : (Pipeline.afterTail₀ cfgs (dats m) 0 (V0 m) [hostOps1] c main_v10 : FVec Ideal S2x1x4096 .f32)
    = shapeCast S2x1x4096 (leaves m c) shapeCasts_S2x4096x1_S2x1x4096 := by
  have e : Pipeline.withArrays (cfgs 0).spec c (V0 m c) (fun w => (dats m 0 c).arrAt w (cfgs 0).N) (Proc.devRef .tc main_v9) = leaves m c :=
    (Pipeline.withArrays_arr (cfgs 0).spec launch0.win.arr_inj c (V0 m c) _ 4).trans (final m c)
  show StableHlo.after hostOps1 _ (Proc.devRef .tc main_v10) = _
  rw [← e]
  after_results
  rfl

/-- The result the program ends with, index by index. -/
theorem ends (c : Dev nD) (b : Fin 2) (i : Fin 4096) :
    (Pipeline.afterTail₀ cfgs (dats m) 0 (V0 m) [hostOps1] c main_v10 : FVec Ideal S2x1x4096 .f32) (ix3 b 0 i)
      = result (coords m c) (normals m c) b i := by
  rw [tail]
  unfold leaves
  pointwise

end Cert.Proof.Tile
end
-- ==== Proof.Rank.lean ====
/- Sorting marked indices: `n` places hold their own index where a condition is met and `n` elsewhere; once sorted, the
   first places run through the indices that meet the condition, in order. Nothing here reads a program. -/
module

public import proofs.«01_k».proof.Proof.Pick
public import Idealize.ShloMosaic.Lib.SortFacts

@[expose] public section

noncomputable section

namespace Cert.Proof.Ppf

variable (p : ℕ → Prop) [DecidablePred p] {n : ℕ} (σ : Fin n → Fin n) (y : Fin n → ℕ)

/-- A sorted place that holds an index holds one that meets the condition, and no more such indices lie below it than
    places lie before it. -/
theorem sorted_meets (hσ : Function.Surjective σ) (hy : ∀ k, y k = if p (σ k) then (σ k : ℕ) else n) (hm : Monotone y)
    (k : Fin n) (hk : y k < n) : p (y k) ∧ Nat.count p (y k) ≤ k := by
  have hp : p (σ k) := by
    by_contra h
    rw [hy, if_neg h] at hk
    exact lt_irrefl _ hk
  have e : y k = σ k := by rw [hy, if_pos hp]
  refine ⟨e ▸ hp, ?_⟩
  choose τ hτ using hσ
  rw [Nat.count_eq_card_filter_range]
  have hlt : ∀ j (hj : j < n), p j → j < y k → (τ ⟨j, hj⟩ : ℕ) < k := by
    intro j hj hpj hjk
    by_contra h
    have h1 := hm (show k ≤ τ ⟨j, hj⟩ from not_lt.mp h)
    rw [hy (τ ⟨j, hj⟩), hτ, if_pos hpj] at h1
    exact absurd (lt_of_lt_of_le hjk h1) (lt_irrefl _)
  have hc := Finset.card_le_card_of_injOn (s := (Finset.range (y k)).filter p) (t := Finset.range k)
    (fun j => if hj : j < n then (τ ⟨j, hj⟩ : ℕ) else 0) ?_ ?_
  · rwa [Finset.card_range] at hc
  · intro j hj
    simp only [Finset.coe_filter, Finset.mem_range, Set.mem_setOf_eq] at hj
    have hjn : j < n := lt_trans hj.1 hk
    simp only [dif_pos hjn, Finset.coe_range, Set.mem_Iio]
    exact hlt j hjn hj.2 hj.1
  · intro j hj j' hj' h
    simp only [Finset.coe_filter, Finset.mem_range, Set.mem_setOf_eq] at hj hj'
    have hjn : j < n := lt_trans hj.1 hk
    have hjn' : j' < n := lt_trans hj'.1 hk
    simp only [dif_pos hjn, dif_pos hjn'] at h
    have := congrArg σ (Fin.ext h)
    rw [hτ, hτ] at this
    exact congrArg Fin.val this

/-- An index that meets the condition stands at a sorted place that is not beyond the count of such indices below it. -/
theorem sorted_reaches (hσ : Function.Bijective σ) (hy : ∀ k, y k = if p (σ k) then (σ k : ℕ) else n) (hm : Monotone y)
    (j : ℕ) (hj : j < n) (hp : p j) : ∃ k : Fin n, y k = j ∧ (k : ℕ) ≤ Nat.count p j := by
  obtain ⟨k, hk⟩ := hσ.2 ⟨j, hj⟩
  have e : y k = j := by rw [hy, hk, if_pos hp]
  refine ⟨k, e, ?_⟩
  have hlt : ∀ i : Fin n, i < k → p (y i) ∧ y i < j ∧ y i = σ i := by
    intro i hi
    have h1 : y i ≤ j := e ▸ hm hi.le
    have h2 : p (σ i) := by
      by_contra h
      rw [hy, if_neg h] at h1
      omega
    have h3 : y i = σ i := by rw [hy, if_pos h2]
    refine ⟨h3 ▸ h2, lt_of_le_of_ne h1 fun h => ?_, h3⟩
    have : σ i = σ k := by rw [hk]; exact Fin.ext (h3 ▸ h)
    exact absurd (hσ.1 this) (ne_of_lt hi)
  rw [Nat.count_eq_card_filter_range]
  have hc := Finset.card_le_card_of_injOn (s := Finset.Iio k) (t := (Finset.range j).filter p) y ?_ ?_
  · rwa [Fin.card_Iio] at hc
  · intro i hi
    obtain ⟨h1, h2, _⟩ := hlt i (by simpa using hi)
    simp [h1, h2]
  · intro i hi i' hi' h
    obtain ⟨_, _, h3⟩ := hlt i (by simpa using hi)
    obtain ⟨_, _, h3'⟩ := hlt i' (by simpa using hi')
    exact hσ.1 (Fin.ext (h3 ▸ h3' ▸ h))

/-- The first 32 sorted places, a place without an index taking the first place's. -/
def padded (y : Fin 4096 → ℕ) (k : Fin 32) : ℕ := if y ⟨k, by omega⟩ = 4096 then y 0 else y ⟨k, by omega⟩

variable (σ : Fin 4096 → Fin 4096) (y : Fin 4096 → ℕ)

/-- Every padded place holds a kept index, when some index meets the condition. -/
theorem padded_kept (hσ : Function.Bijective σ) (hy : ∀ k, y k = if p (σ k) then (σ k : ℕ) else 4096) (hm : Monotone y)
    (i : Fin 4096) (hi : p i) (k : Fin 32) : padded y k < 4096 ∧ Kept p (padded y k) := by
  have hle : ∀ k, y k ≤ 4096 := fun k => by rw [hy]; split <;> omega
  have h0 : y 0 < 4096 := by
    obtain ⟨k, hk, _⟩ := sorted_reaches p σ y hσ hy hm i i.isLt hi
    exact lt_of_le_of_lt (hm (Fin.zero_le k)) (hk ▸ i.isLt)
  unfold padded
  split
  · obtain ⟨h1, h2⟩ := sorted_meets p σ y hσ.2 hy hm 0 h0
    exact ⟨h0, h1, lt_of_le_of_lt h2 (by decide)⟩
  · rename_i h
    have hk : y ⟨k, by omega⟩ < 4096 := lt_of_le_of_ne (hle _) h
    obtain ⟨h1, h2⟩ := sorted_meets p σ y hσ.2 hy hm _ hk
    exact ⟨hk, h1, lt_of_le_of_lt h2 k.isLt⟩

/-- Every kept index stands at a padded place. -/
theorem padded_reaches (hσ : Function.Bijective σ) (hy : ∀ k, y k = if p (σ k) then (σ k : ℕ) else 4096) (hm : Monotone y)
    (j : ℕ) (hj : j < 4096) (hk : Kept p j) : ∃ k, padded y k = j := by
  obtain ⟨k, e, h⟩ := sorted_reaches p σ y hσ hy hm j hj hk.1
  refine ⟨⟨k, lt_of_le_of_lt h hk.2⟩, ?_⟩
  unfold padded
  rw [if_neg (by show y k ≠ 4096; omega)]
  exact e

/-- Sorting by the order of natural keys leaves ascending keys. -/
theorem mono_sortedFrom {n : ℕ} (M : Fin n → ℕ) (before : Fin n → Fin n → Bool) (h : ∀ k k', before k k' = decide (M k < M k')) :
    Monotone fun k => M (Idealize.ShloMosaic.sortedFrom before k) := by
  intro k k' hk
  rcases hk.eq_or_lt with rfl | hlt
  · exact le_rfl
  · have := Idealize.ShloMosaic.sortedFrom_noInversion before before
      (fun a c e => by rw [h] at e ⊢; simp only [decide_eq_true_eq, decide_eq_false_iff_not] at e ⊢; omega) (fun _ _ e => e)
      (fun a c e h1 h2 => by rw [h] at h1 h2 ⊢; simp only [decide_eq_false_iff_not] at h1 h2 ⊢; omega) k k' hlt
    rw [h, decide_eq_false_iff_not, not_lt] at this
    exact this

end Cert.Proof.Ppf
end
-- ==== Proof.Ball.lean ====
/- The reference's ball: the sorted marked indices, the padded ones, and the points gathered at them. -/
module

public import proofs.«01_k».proof.Proof.Rank
public import proofs.«01_k».proof.Proof.Pair
public import proofs.«01_k».proof.Proof.Gen.ReferenceIdeal.Run
public import Idealize.ShloMosaic.Lib.Pipeline.ValueKit
public import Idealize.ShloMosaic.Lib.WordCmp

@[expose] public section

set_option maxRecDepth 16384

noncomputable section

namespace Cert.Proof.Ref

open Idealize.ShloMosaic Idealize.ShloMosaic.TcCoe Idealize.SL.Sem Cert.ReferenceIdeal Cert.ReferenceIdeal.Gen Cert.ReferenceIdeal.Value Cert.Proof.Ppf

variable (L : Valuation τ sig (Elt Ideal))

/-- The coordinates, as a table. -/
def coords : Cloud := fun b d j => L (Proc.devRef .tc main_arg0) (ix3 b d j)

/-- The normals, as a table. -/
def normals : Cloud := fun b d j => L (Proc.devRef .tc main_arg1) (ix3 b d j)

/-- The transposed coordinates. -/
theorem v0_at (b : Fin 2) (i : Fin 4096) (d : Fin 3) : res_main_v0 L (ix3 b i d) = pt (coords L) b i d := by
  rw [pt_val]
  unfold res_main_v0 coords
  pointwise

/-- The squared length of a point. -/
theorem v3_at (b : Fin 2) (i : Fin 4096) :
    res_main_v3 L (ix2 b i) = pt (coords L) b i 0 * pt (coords L) b i 0 + pt (coords L) b i 1 * pt (coords L) b i 1 + pt (coords L) b i 2 * pt (coords L) b i 2 := by
  unfold res_main_v3
  pointwise
  simp only [v0_at]
  exact Fin.sum_univ_three (fun x => pt (coords L) b i x * pt (coords L) b i x)

/-- The marked indices: an index of the ball holds itself, the others hold 4096. -/
def marked : IVec S2x4096x4096 32 :=
  (select (cmpf .ogt (maximumf (subf (addf (broadcastInDim S2x4096x4096 ![0, 1, 2] bcast_S2x4096x1_S2x4096x4096_0_1_2 (broadcastInDim S2x4096x1 ![0, 1] bcast_S2x4096_S2x4096x1_0_1 (res_main_v3 L))) (broadcastInDim S2x4096x4096 ![0, 1, 2] bcast_S2x1x4096_S2x4096x4096_0_1_2 (broadcastInDim S2x1x4096 ![0, 2] bcast_S2x4096_S2x1x4096_0_2 (res_main_v3 L)))) (mulf (broadcastInDim S2x4096x4096 ![] bcast_S_S2x4096x4096 (constant S_ .f32 0x40000000#32)) (Host.dotGeneral (φ₁ := .f32) (φ₂ := .f32) dot_S2x4096x3_S2x4096x3_S2x4096x4096_2_2_1_1_0_0 none (res_main_v0 L) (res_main_v0 L)))) (broadcastInDim S2x4096x4096 ![] bcast_S_S2x4096x4096 (constant S_ .f32 0x00000000#32))) (broadcastInDim S2x4096x4096 ![] bcast_S_S2x4096x4096 (constant S_ .f32 0x3CB851EC#32))) (broadcastInDim S2x4096x4096 ![] bcast_S_S2x4096x4096 (id (constantI S_ 32 4096#32))) (broadcastInDim S2x4096x4096 ![0, 1, 2] bcast_S1x1x4096_S2x4096x4096_0_1_2 (broadcastInDim S1x1x4096 ![2] bcast_S4096_S1x1x4096_2 (iotaInDim S4096 32 0))))

/-- A marked index is itself or 4096. -/
theorem marked_at (b : Fin 2) (i j : Fin 4096) :
    marked L (ix3 b i j) = BitVec.ofNat 32 (if Near (coords L) b i j then (j : ℕ) else 4096) := by
  unfold marked
  pointwise
  simp only [v3_at, v0_at]
  unfold Near dist2
  simp only [← not_lt]
  rw [apply_ite (BitVec.ofNat 32), ite_not]
  rfl

/-- The number a marked index holds. -/
def mark (b : Fin 2) (i j : Fin 4096) : ℕ := if Near (coords L) b i j then (j : ℕ) else 4096

/-- Such a number is at most 4096. -/
theorem mark_le (b : Fin 2) (i j : Fin 4096) : mark L b i j ≤ 4096 := by
  unfold mark
  split
  · exact j.isLt.le
  · exact le_rfl

/-- The sort's comparison is that of the numbers. -/
theorem before_eq (b : Fin 2) (i j j' : Fin 4096) :
    (comparator_i32_d2 (marked L (ix3 b i j)) (marked L (ix3 b i j')) == 1#1) = decide (mark L b i j < mark L b i j') := by
  rw [marked_at, marked_at]
  show (IntOp.cmpi .slt (BitVec.ofNat 32 (mark L b i j)) (BitVec.ofNat 32 (mark L b i j')) == 1#1) = _
  rw [WordCmp.cmpi_slt_ofNat (lt_of_le_of_lt (mark_le L b i j) (by decide)) (lt_of_le_of_lt (mark_le L b i j') (by decide))]
  generalize decide (mark L b i j < mark L b i j') = x
  cases x <;> rfl

/-- Which place the sort moves to place `k`. -/
def source (b : Fin 2) (i : Fin 4096) : Fin 4096 → Fin 4096 :=
  sortedFrom fun k k' => comparator_i32_d2 (marked L (ix3 b i k)) (marked L (ix3 b i k')) == 1#1

/-- The number a sorted place holds. -/
def held (b : Fin 2) (i : Fin 4096) (k : Fin 4096) : ℕ := mark L b i (source L b i k)

/-- The sort permutes. -/
theorem source_bijective (b : Fin 2) (i : Fin 4096) : Function.Bijective (source L b i) :=
  ⟨sortedFrom_injective _, sortedFrom_surjective _⟩

/-- The sorted numbers ascend. -/
theorem held_mono (b : Fin 2) (i : Fin 4096) : Monotone (held L b i) :=
  mono_sortedFrom (mark L b i) _ (before_eq L b i)

/-- The indices along the last axis through an index. -/
theorem along_last (b : Fin 2) (i k : Fin 4096) :
    (fun k' : Fin 4096 => Shape.Idx.along (ix3 b i k : S2x4096x4096.Idx) (2 : Fin 3) (show Fin (S2x4096x4096.size (2 : Fin 3)) from k'))
      = fun k' => ix3 b i k' := by
  funext k' a
  fin_cases a <;> rfl

/-- A sort along the last axis, read at an index. -/
theorem sort_at (x : IVec S2x4096x4096 32) (b : Fin 2) (i k : Fin 4096) :
    Host.sort S2x4096x4096 2 comparator_i32_d2 x (ix3 b i k)
      = x (ix3 b i (sortedFrom (fun k k' => comparator_i32_d2 (x (ix3 b i k)) (x (ix3 b i k')) == 1#1) k)) := by
  have e : ∀ A : Fin 4096 → S2x4096x4096.Idx, A = (fun k' => ix3 b i k') →
      x (A (sortedFrom (fun k k' => comparator_i32_d2 (x (A k)) (x (A k')) == 1#1) k))
        = x (ix3 b i (sortedFrom (fun k k' => comparator_i32_d2 (x (ix3 b i k)) (x (ix3 b i k')) == 1#1) k)) := by
    rintro _ rfl
    rfl
  unfold Host.sort
  rw [dif_pos (show 2 < S2x4096x4096.rank by decide)]
  exact e (fun k' : Fin 4096 => Shape.Idx.along (ix3 b i k : S2x4096x4096.Idx) (2 : Fin 3) (show Fin (S2x4096x4096.size (2 : Fin 3)) from k')) (along_last b i k)

/-- The first 32 sorted places. -/
theorem v22_at (b : Fin 2) (i : Fin 4096) (k : Fin 32) : res_main_v22 L (ix3 b i k) = BitVec.ofNat 32 (held L b i ⟨k, by omega⟩) := by
  have e : res_main_v22 L = extractStridedSlice S2x4096x32 ![0, 0, 0] (Host.sort S2x4096x4096 2 comparator_i32_d2 (marked L)) slices_S2x4096x4096_S2x4096x32_0_0_0 := by
    unfold res_main_v22 marked
    rfl
  rw [e]
  pointwise
  exact (sort_at (marked L) b i _).trans (marked_at L b i _)

/-- The padded indices. -/
theorem v27_at (b : Fin 2) (i : Fin 4096) (k : Fin 32) : res_main_v27 L (ix3 b i k) = BitVec.ofNat 32 (padded (held L b i) k) := by
  unfold res_main_v27
  pointwise
  simp only [v22_at]
  have hk := mark_le L b i (source L b i ⟨k, by omega⟩)
  have e : IntOp.cmpi .eq (BitVec.ofNat 32 (held L b i ⟨k, by omega⟩)) (4096#32) = BitVec.ofBool (decide (held L b i ⟨k, by omega⟩ = 4096)) :=
    WordCmp.cmpi_eq_ofNat (lt_of_le_of_lt hk (by decide)) (by decide)
  rw [e, WordCmp.select_decide]
  unfold padded
  rw [apply_ite (BitVec.ofNat 32)]
  rfl

/-- A finite cloud's padded indices are kept ones. -/
theorem index_kept (hX : ∀ b d j, ∃ r : ℝ, coords L b d j = (r : EReal)) (b : Fin 2) (i : Fin 4096) (k : Fin 32) :
    padded (held L b i) k < 4096 ∧ Kept (Near (coords L) b i) (padded (held L b i) k) :=
  padded_kept (Near (coords L) b i) (source L b i) (held L b i) (source_bijective L b i) (fun _ => rfl) (held_mono L b i) i
    (near_self (coords L) hX b i) k

/-- Every kept index is a padded one. -/
theorem index_reaches (b : Fin 2) (i : Fin 4096) (j : ℕ) (hj : j < 4096) (hk : Kept (Near (coords L) b i) j) :
    ∃ k, padded (held L b i) k = j :=
  padded_reaches (Near (coords L) b i) (source L b i) (held L b i) (source_bijective L b i) (fun _ => rfl) (held_mono L b i) j hj hk

/-- The gather of points at one list of indices per centre, read at an index. -/
theorem gather_at (x : FVec Ideal S2x4096x3 .f32) (idx : IVec S2x4096x32x1 32) (b : Fin 2) (i : Fin 4096) (k : Fin 32) (d : Fin 3)
    (j : Fin 4096) (h : idx (ix4 b i k 0) = BitVec.ofNat 32 j) :
    Host.gather gather_S2x4096x3_S2x4096x32x1_S2x4096x32x3_3_1_0_0_1_3_113 x idx (ix4 b i k d) = x (ix3 b j d) := by
  have hw : (BitVec.ofNat 32 (j : ℕ)).toInt.toNat = j := by
    have hj := j.isLt
    rw [BitVec.toInt_eq_toNat_of_lt (by rw [BitVec.toNat_ofNat]; omega), BitVec.toNat_ofNat]
    omega
  unfold Host.gather
  refine congrArg x (funext fun a => Fin.ext ?_)
  show (gather_S2x4096x3_S2x4096x32x1_S2x4096x32x3_3_1_0_0_1_3_113).start (ix4 b i k d) idx a
      + (gather_S2x4096x3_S2x4096x32x1_S2x4096x32x3_3_1_0_0_1_3_113).batchCoord (ix4 b i k d) a
      + (gather_S2x4096x3_S2x4096x32x1_S2x4096x32x3_3_1_0_0_1_3_113).offCoord (ix4 b i k d) a = _
  match a with
  | ⟨0, _⟩ =>
    have h1 : (gather_S2x4096x3_S2x4096x32x1_S2x4096x32x3_3_1_0_0_1_3_113).start (ix4 b i k d) idx (0 : Fin 3) = 0 :=
      GatherDims.start_batching _ _ _ _ (List.mem_singleton.mpr rfl)
    have h2 : (gather_S2x4096x3_S2x4096x32x1_S2x4096x32x3_3_1_0_0_1_3_113).offCoord (ix4 b i k d) (0 : Fin 3) = 0 :=
      GatherDims.offCoord_eq_zero _ _ _ (fun h => ((GatherDims.mem_sKept _ _).mp h).2 (List.mem_singleton.mpr rfl))
    have h3 : (gather_S2x4096x3_S2x4096x32x1_S2x4096x32x3_3_1_0_0_1_3_113).batchCoord (ix4 b i k d) (0 : Fin 3) = b := by
      unfold GatherDims.batchCoord
      rw [dif_pos (show (0 : Fin 3) ∈ (gather_S2x4096x3_S2x4096x32x1_S2x4096x32x3_3_1_0_0_1_3_113).operandBatchingDims from List.mem_singleton.mpr rfl)]
      rfl
    show _ + _ + _ = (b : ℕ)
    rw [show (⟨0, _⟩ : Fin 3) = 0 from rfl, h1, h2, h3]
    omega
  | ⟨1, _⟩ =>
    have h2 : (gather_S2x4096x3_S2x4096x32x1_S2x4096x32x3_3_1_0_0_1_3_113).offCoord (ix4 b i k d) (1 : Fin 3) = 0 :=
      GatherDims.offCoord_eq_zero _ _ _ (fun h => ((GatherDims.mem_sKept _ _).mp h).1 (List.mem_singleton.mpr rfl))
    have h3 : (gather_S2x4096x3_S2x4096x32x1_S2x4096x32x3_3_1_0_0_1_3_113).batchCoord (ix4 b i k d) (1 : Fin 3) = 0 :=
      GatherDims.batchCoord_eq_zero _ _ _ (by decide)
    have h1 : (gather_S2x4096x3_S2x4096x32x1_S2x4096x32x3_3_1_0_0_1_3_113).start (ix4 b i k d) idx (1 : Fin 3) = j := by
      unfold GatherDims.start
      rw [dif_pos (show (1 : Fin 3) ∈ (gather_S2x4096x3_S2x4096x32x1_S2x4096x32x3_3_1_0_0_1_3_113).startIndexMap from List.mem_singleton.mpr rfl)]
      have hsi : (gather_S2x4096x3_S2x4096x32x1_S2x4096x32x3_3_1_0_0_1_3_113).siIdx (ix4 b i k d)
          ⟨List.idxOf (1 : Fin 3) (gather_S2x4096x3_S2x4096x32x1_S2x4096x32x3_3_1_0_0_1_3_113).startIndexMap,
            List.idxOf_lt_length_iff.2 (List.mem_singleton.mpr rfl)⟩ = ix4 b i k 0 := by
        funext e; refine Fin.ext ?_
        match e with
        | ⟨0, _⟩ => rfl
        | ⟨1, _⟩ => rfl
        | ⟨2, _⟩ => rfl
        | ⟨3, _⟩ => rfl
      rw [hsi, h, hw]
      have hj := j.isLt
      show min (j : ℕ) (4096 - 1) = j
      omega
    show _ + _ + _ = (j : ℕ)
    rw [show (⟨1, _⟩ : Fin 3) = 1 from rfl, h1, h2, h3]
    omega
  | ⟨2, _⟩ =>
    have h1 : (gather_S2x4096x3_S2x4096x32x1_S2x4096x32x3_3_1_0_0_1_3_113).start (ix4 b i k d) idx (2 : Fin 3) = 0 := by
      unfold GatherDims.start
      rw [dif_neg (show (2 : Fin 3) ∉ (gather_S2x4096x3_S2x4096x32x1_S2x4096x32x3_3_1_0_0_1_3_113).startIndexMap by decide)]
    have h3 : (gather_S2x4096x3_S2x4096x32x1_S2x4096x32x3_3_1_0_0_1_3_113).batchCoord (ix4 b i k d) (2 : Fin 3) = 0 :=
      GatherDims.batchCoord_eq_zero _ _ _ (by decide)
    have h2 : (gather_S2x4096x3_S2x4096x32x1_S2x4096x32x3_3_1_0_0_1_3_113).offCoord (ix4 b i k d) (2 : Fin 3) = d := by
      unfold GatherDims.offCoord
      rw [dif_pos (by decide)]
      rfl
    show _ + _ + _ = (d : ℕ)
    rw [show (⟨2, _⟩ : Fin 3) = 2 from rfl, h1, h2, h3]
    omega

/-- The padded indices, a negative one counted from the end. -/
def wrapped : IVec S2x4096x32 32 :=
  select (cmpi .slt (res_main_v27 L) (broadcastInDim S2x4096x32 ![] bcast_S_S2x4096x32 (constantI S_ 32 0#32))) (addi (res_main_v27 L) (broadcastInDim S2x4096x32 ![] bcast_S_S2x4096x32 (constantI S_ 32 4096#32))) (res_main_v27 L)

/-- None is negative. -/
theorem wrapped_at (b : Fin 2) (i : Fin 4096) (k : Fin 32) (hk : padded (held L b i) k < 4096) :
    wrapped L (ix3 b i k) = BitVec.ofNat 32 (padded (held L b i) k) := by
  unfold wrapped
  pointwise
  rw [v27_at, show (0#32) = BitVec.ofNat 32 0 from rfl, WordCmp.cmpi_slt_ofNat (lt_trans hk (by decide)) (by decide), WordCmp.select_decide, if_neg (Nat.not_lt_zero _)]

/-- The indices the gather reads. -/
theorem indices_at (b : Fin 2) (i : Fin 4096) (k : Fin 32) :
    broadcastInDim S2x4096x32x1 ![0, 1, 2] bcast_S2x4096x32_S2x4096x32x1_0_1_2 (wrapped L) (ix4 b i k 0) = wrapped L (ix3 b i k) := by
  pointwise

/-- The centre's coordinates, once for each padded point. -/
theorem centre_at (x : FVec Ideal S2x4096x3 .f32) (b : Fin 2) (i : Fin 4096) (k : Fin 32) (d : Fin 3) :
    broadcastInDim S2x4096x32x3 ![0, 1, 2, 3] bcast_S2x4096x1x3_S2x4096x32x3_0_1_2_3 (broadcastInDim S2x4096x1x3 ![0, 1, 3] bcast_S2x4096x3_S2x4096x1x3_0_1_3 x) (ix4 b i k d)
      = x (ix3 b i d) := by
  pointwise

/-- A difference of two arrays at an index. -/
theorem sub_at (x y : FVec Ideal S2x4096x32x3 .f32) (j : S2x4096x32x3.Idx) : subf x y j = (x j - y j : EReal) := rfl

/-- The offsets are the gathered points less the centre's. -/
theorem v37_eq : res_main_v37 L
    = subf (Host.gather gather_S2x4096x3_S2x4096x32x1_S2x4096x32x3_3_1_0_0_1_3_113 (res_main_v0 L) (broadcastInDim S2x4096x32x1 ![0, 1, 2] bcast_S2x4096x32_S2x4096x32x1_0_1_2 (wrapped L)))
        (broadcastInDim S2x4096x32x3 ![0, 1, 2, 3] bcast_S2x4096x1x3_S2x4096x32x3_0_1_2_3 (broadcastInDim S2x4096x1x3 ![0, 1, 3] bcast_S2x4096x3_S2x4096x1x3_0_1_3 (res_main_v0 L))) := by
  unfold res_main_v37 wrapped
  rfl

/-- The offset from a centre to the point gathered at an index. -/
theorem offset_at (b : Fin 2) (i : Fin 4096) (k : Fin 32) (d : Fin 3) (q : Fin 4096) (h : wrapped L (ix3 b i k) = BitVec.ofNat 32 q) :
    (res_main_v37 L : FVec Ideal S2x4096x32x3 .f32) (ix4 b i k d) = (pt (coords L) b q d - pt (coords L) b i d : EReal) := by
  have h' := indices_at L b i k
  rw [h] at h'
  rw [v37_eq, sub_at]
  generalize broadcastInDim S2x4096x32x1 ![0, 1, 2] bcast_S2x4096x32_S2x4096x32x1_0_1_2 (wrapped L) = X at *
  rw [gather_at (res_main_v0 L) X b i k d q h', centre_at (res_main_v0 L) b i k d, v0_at, v0_at]

/-- The offset from a centre to one of its padded points. -/
theorem v37_at (hX : ∀ b d j, ∃ r : ℝ, coords L b d j = (r : EReal)) (b : Fin 2) (i : Fin 4096) (k : Fin 32) (d : Fin 3) :
    (res_main_v37 L : FVec Ideal S2x4096x32x3 .f32) (ix4 b i k d) = (pt (coords L) b (padded (held L b i) k) d - pt (coords L) b i d : EReal) := by
  have hk := And.left (index_kept L hX b i k)
  exact offset_at L b i k d ⟨padded (held L b i) k, hk⟩ (wrapped_at L b i k hk)

/-- The centre's normal, once for each padded point. -/
theorem v39_at (b : Fin 2) (i : Fin 4096) (k : Fin 32) (d : Fin 3) : res_main_v39 L (ix4 b i k d) = pt (normals L) b i d := by
  rw [pt_val]
  unfold res_main_v39 normals
  pointwise

end Cert.Proof.Ref
end
-- ==== Proof.Angles.lean ====
/- The reference's angles at the padded points, and its greatest. -/
module

public import proofs.«01_k».proof.Proof.Ball

@[expose] public section

set_option maxRecDepth 16384

noncomputable section

namespace Cert.Proof.Ref

open Idealize.ShloMosaic Idealize.ShloMosaic.TcCoe Idealize.SL.Sem Cert.ReferenceIdeal Cert.ReferenceIdeal.Gen Cert.ReferenceIdeal.Value Cert.Proof.Ppf

variable (L : Valuation τ sig (Elt Ideal)) (b : Fin 2) (i : Fin 4096) (k : Fin 32)

/-- Component 0 of the normal. -/
theorem v41_at : res_main_v41 L (ix3 b i k) = res_main_v39 L (ix4 b i k 0) := by
  unfold res_main_v41
  pointwise

/-- Component 1 of the normal. -/
theorem v43_at : res_main_v43 L (ix3 b i k) = res_main_v39 L (ix4 b i k 1) := by
  unfold res_main_v43
  pointwise

/-- Component 2 of the normal. -/
theorem v45_at : res_main_v45 L (ix3 b i k) = res_main_v39 L (ix4 b i k 2) := by
  unfold res_main_v45
  pointwise

/-- Component 0 of the offset. -/
theorem v47_at : res_main_v47 L (ix3 b i k) = res_main_v37 L (ix4 b i k 0) := by
  unfold res_main_v47
  pointwise

/-- Component 1 of the offset. -/
theorem v49_at : res_main_v49 L (ix3 b i k) = res_main_v37 L (ix4 b i k 1) := by
  unfold res_main_v49
  pointwise

/-- Component 2 of the offset. -/
theorem v51_at : res_main_v51 L (ix3 b i k) = res_main_v37 L (ix4 b i k 2) := by
  unfold res_main_v51
  pointwise

/-- Component 0 of the cross product. -/
theorem v64_at0 : (show EReal from res_main_v64 L (ix4 b i k 0))
    = (show EReal from res_main_v43 L (ix3 b i k)) * (show EReal from res_main_v51 L (ix3 b i k)) - (show EReal from res_main_v45 L (ix3 b i k)) * (show EReal from res_main_v49 L (ix3 b i k)) := by
  unfold res_main_v64
  pointwise

/-- Component 1 of the cross product. -/
theorem v64_at1 : (show EReal from res_main_v64 L (ix4 b i k 1))
    = (show EReal from res_main_v45 L (ix3 b i k)) * (show EReal from res_main_v47 L (ix3 b i k)) - (show EReal from res_main_v41 L (ix3 b i k)) * (show EReal from res_main_v51 L (ix3 b i k)) := by
  unfold res_main_v64
  pointwise

/-- Component 2 of the cross product. -/
theorem v64_at2 : (show EReal from res_main_v64 L (ix4 b i k 2))
    = (show EReal from res_main_v41 L (ix3 b i k)) * (show EReal from res_main_v49 L (ix3 b i k)) - (show EReal from res_main_v43 L (ix3 b i k)) * (show EReal from res_main_v47 L (ix3 b i k)) := by
  unfold res_main_v64
  pointwise

/-- The squared length of the cross product. -/
theorem v66_at (hX : ∀ b d j, ∃ r : ℝ, coords L b d j = (r : EReal)) :
    (show EReal from res_main_v66 L (ix3 b i k)) = crossSq (pt (normals L) b i) (pt (coords L) b i) (pt (coords L) b (padded (held L b i) k)) := by
  have e : (show EReal from res_main_v66 L (ix3 b i k)) = ∑ d : Fin 3, (show EReal from res_main_v64 L (ix4 b i k d)) * (show EReal from res_main_v64 L (ix4 b i k d)) := by
    unfold res_main_v66
    pointwise
  rw [e, Fin.sum_univ_three, v64_at0, v64_at1, v64_at2, v41_at, v43_at, v45_at, v47_at, v49_at, v51_at, v39_at, v39_at, v39_at,
    v37_at L hX, v37_at L hX, v37_at L hX]
  rfl

/-- The dot product. -/
theorem v68_at (hX : ∀ b d j, ∃ r : ℝ, coords L b d j = (r : EReal)) :
    (show EReal from res_main_v68 L (ix3 b i k)) = dotp (pt (normals L) b i) (pt (coords L) b i) (pt (coords L) b (padded (held L b i) k)) := by
  have e : (show EReal from res_main_v68 L (ix3 b i k)) = ∑ d : Fin 3, (show EReal from res_main_v39 L (ix4 b i k d)) * (show EReal from res_main_v37 L (ix4 b i k d)) := by
    unfold res_main_v68
    pointwise
  rw [e, Fin.sum_univ_three, v39_at, v39_at, v39_at, v37_at L hX, v37_at L hX, v37_at L hX]
  rfl

/-- The angle of a centre with each of its padded points, from the two sums. -/
def angles : FVec Ideal S2x4096x32 .f32 :=
  select (res_main_v74 L) (broadcastInDim S2x4096x32 ![] bcast_S_S2x4096x32 (id (constant S_ .f32 0x00000000#32))) (Host.atan2 (select (cmpf .olt (res_main_v66 L) (broadcastInDim S2x4096x32 ![] bcast_S_S2x4096x32 (constant S_ .f32 0x1E3CE508#32))) (broadcastInDim S2x4096x32 ![] bcast_S_S2x4096x32 (id (constant S_ .f32 0x00000000#32))) (Host.sqrt (select (cmpf .olt (res_main_v66 L) (broadcastInDim S2x4096x32 ![] bcast_S_S2x4096x32 (constant S_ .f32 0x1E3CE508#32))) (broadcastInDim S2x4096x32 ![] bcast_S_S2x4096x32 (id (constant S_ .f32 0x3F800000#32))) (res_main_v66 L)))) (select (res_main_v74 L) (broadcastInDim S2x4096x32 ![] bcast_S_S2x4096x32 (id (constant S_ .f32 0x3F800000#32))) (res_main_v68 L)))

/-- The greatest angle of each centre. -/
def greatest : FVec Ideal S2x1x4096 .f32 :=
  broadcastInDim S2x1x4096 ![0, 2] bcast_S2x4096_S2x1x4096_0_2 (Host.reduce FloatOps.maximumf (angles L) (constant S_ .f32 0xFF800000#32) reducesTo_S2x4096x32_S2x4096_d2 h_S_)

/-- The guarded angle, in the program's own spelling. -/
theorem angle_spelt (d s z o : EReal) (hz : z = 0) (ho : o = 1) :
    Scalar.select (IntOp.andi (BitVec.ofBool (decide (s < tiny))) (BitVec.ofBool (decide (max d (-d) < small)))) z
      (Ideal.atan2 (if s < tiny then z else Ideal.sqrt (if s < tiny then o else s))
        (Scalar.select (IntOp.andi (BitVec.ofBool (decide (s < tiny))) (BitVec.ofBool (decide (max d (-d) < small)))) o d))
      = angle d s := by
  subst hz ho
  rw [WordCmp.andi_ofBool, ← Bool.decide_and, WordCmp.select_decide, WordCmp.select_decide]
  unfold angle
  congr

/-- The angle of one padded point. -/
theorem angles_at : (show EReal from angles L (ix3 b i k)) = angle (show EReal from res_main_v68 L (ix3 b i k)) (show EReal from res_main_v66 L (ix3 b i k)) := by
  unfold angles res_main_v74
  pointwise
  have hz : (id (constant (F := Ideal) S_ .f32 0x00000000#32) ix0 : EReal) = 0 := by
    rw [id]
    pointwise
  have ho : (id (constant (F := Ideal) S_ .f32 0x3F800000#32) ix0 : EReal) = 1 := by
    rw [id]
    pointwise
  exact angle_spelt (res_main_v68 L (ix3 b i k)) (res_main_v66 L (ix3 b i k)) _ _ hz ho

/-- The greatest angle of a centre is the greatest over its padded points. -/
theorem greatest_at (hX : ∀ b d j, ∃ r : ℝ, coords L b d j = (r : EReal)) :
    greatest L (ix3 b 0 i) = Finset.univ.fold max ⊥ fun k : Fin 32 => angleAt (coords L) (normals L) b i (padded (held L b i) k) := by
  have e : greatest L (ix3 b 0 i) = Finset.univ.fold max ⊥ fun k : Fin 32 => (show EReal from angles L (ix3 b i k)) := by
    unfold greatest
    pointwise
    rw [negInf_eq]
  refine e.trans (congrArg (fun f : Fin 32 → EReal => Finset.univ.fold max ⊥ f) (funext fun k => ?_))
  rw [angles_at, v66_at L b i k hX, v68_at L b i k hX]
  rfl

/-- On finite tables the greatest angle is the angle of the least score among the kept points. -/
theorem greatest_eq (hX : ∀ b d j, ∃ r : ℝ, coords L b d j = (r : EReal)) (hN : ∀ b d j, ∃ r : ℝ, normals L b d j = (r : EReal)) :
    greatest L (ix3 b 0 i) = result (coords L) (normals L) b i := by
  rw [greatest_at L b i hX]
  exact (angleOf_best (Near (coords L) b i) (scoreAt (coords L) (normals L) b i) 4096 32 (angleAt (coords L) (normals L) b i) (padded (held L b i))
    (scoreAt_spec (coords L) (normals L) hX hN b i) (index_kept L hX b i) (index_reaches L b i) 0).symm

end Cert.Proof.Ref
end
-- ==== Proof.Equal.lean ====
/- The kernel's result array and the reference's are one array, from memories that agree on finite arguments. -/
module

public import proofs.«01_k».proof.Proof.Accum
public import proofs.«01_k».proof.Proof.Angles

@[expose] public section

set_option maxRecDepth 16384

noncomputable section

namespace Cert.Proof.Equal

open Idealize.ShloMosaic Idealize.ShloMosaic.TcCoe Idealize.SL.Sem Cert.Proof.Ppf

variable (m : (ℓ : Loc Cert.KernelIdeal.nD Cert.KernelIdeal.τ Cert.KernelIdeal.sig) → Buf (Elt Ideal) ℓ)
variable (L : Valuation Cert.ReferenceIdeal.τ Cert.ReferenceIdeal.sig (Elt Ideal)) (c : Dev Cert.KernelIdeal.nD)

/-- What the kernel's program leaves in its result array. -/
def left : FVec Ideal ⟨3, ![2, 1, 4096]⟩ .f32 :=
  Pipeline.afterTail₀ Cert.KernelIdeal.cfgs (Cert.KernelIdeal.Gen.dats m) 0 (Cert.KernelIdeal.Gen.V0 m) [Cert.KernelIdeal.Gen.hostOps1] c Cert.KernelIdeal.main_v10

/-- From the same finite tables the reference's greatest angles are what the kernel leaves. -/
theorem greatest_left (hx : Ref.coords L = Tile.coords m c) (hn : Ref.normals L = Tile.normals m c)
    (hX : ∀ b d j, ∃ r : ℝ, Tile.coords m c b d j = (r : EReal)) (hN : ∀ b d j, ∃ r : ℝ, Tile.normals m c b d j = (r : EReal)) :
    Ref.greatest L = left m c := by
  funext j
  have e : ∃ (b : Fin 2) (i : Fin 4096), j = ix3 b 0 i :=
    ⟨j 0, j 2, funext fun d => by
      match d with
      | 0 => rfl
      | 1 => exact Subsingleton.elim (α := Fin 1) _ _
      | 2 => rfl⟩
  obtain ⟨b, i, rfl⟩ := e
  rw [Ref.greatest_eq L b i (hx ▸ hX) (hn ▸ hN), hx, hn]
  exact (Tile.ends m c b i).symm

end Cert.Proof.Equal
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Finite
public import proofs.«01_k».proof.Proof.Equal
public import Idealize.ShloMosaic.Adequacy
public import Idealize.ShloMosaic.Init

@[expose] public section

noncomputable section

namespace Cert.Proof

open Idealize.ShloMosaic Idealize.ShloMosaic.TcCoe Idealize.SL.Sem

local instance : Cert.Pre_finite.Facts := Finite.facts

/-- The reference runs to the end, leaves its arguments as they were and every counter at zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
        ∧ r.2.sem = fun _ => 0) :=
  θ_run_mono (Cert.ReferenceIdeal.Value.run m g) fun r h => ⟨fun c => (h c).2, sem_eq_zero_of_no_sems (by decide) r.2⟩

/-- The kernel runs to the end with the array named `left` as its result and its arguments as they were. -/
theorem kernel_leaves (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal))) ⟨m, fun _ => 0, g⟩
      (fun r => ∀ c : Dev Cert.KernelIdeal.nD,
        r.2.mem ((c.tc : Thread Cert.KernelIdeal.nD Cert.KernelIdeal.τ).loc Cert.KernelIdeal.main_v10) = Equal.left m c
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)) :=
  θ_run_mono (θ_run_and (Cert.KernelIdeal.Gen.run_main m g) (Cert.KernelIdeal.Gen.frame m g)) fun _ h c =>
    ⟨(h.1 c).2 Cert.KernelIdeal.main_v10 (Pipeline.mem_restRefs_of Cert.KernelIdeal.main_v10 (by decide) (by decide)), h.2.1 c⟩

/-- On finite arguments the kernel and the reference end with the same result. -/
theorem algebraic : Cert.algebraic_KernelIdeal_ReferenceIdeal_pre_finite := by
  intro m g m' g' hpre hagree
  refine ⟨fun c => Equal.left m c, kernel_leaves m g, θ_run_mono (Cert.ReferenceIdeal.Value.run m' g') fun r h c => ?_⟩
  have hf := Finite.entries _ _ (hpre c)
  refine ⟨(h c).1.trans (Equal.greatest_left m (StableHlo.launchContents m' c) c ?_ ?_ (fun b d j => hf.1 (ix3 b d j)) (fun b d j => hf.2 (ix3 b d j))), (h c).2⟩
  · funext b d j
    exact congrFun (hagree c).1 (ix3 b d j)
  · funext b d j
    exact congrFun (hagree c).2 (ix3 b d j)

/-- All the claims. -/
theorem claim : Cert.Claim :=
  ⟨Cert.Kernel.Gen.facts, Cert.KernelIdeal.Gen.facts, Cert.ReferenceIdeal.Gen.facts, Finite.facts,
    fun m ρ _ => Cert.Kernel.Gen.frame m ρ, fun m ρ _ => Cert.KernelIdeal.Gen.frame m ρ, fun m ρ _ => Cert.KernelIdeal.Gen.frame m ρ,
    fun m ρ _ => reference_frame m ρ, fun m ρ _ => reference_frame m ρ, trivial, algebraic⟩

end Cert.Proof

end
